-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 4, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 4, 4] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 4, 4] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1x1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S1x1024x2048 1 × IVec S2048x128 1 × IVec S128x2048 1 × IVec S2048x2048 1 × IVec S2048x512 1 × IVec S2048x32 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x256 : S_.BroadcastsInDim S2048x256 (![] : Fin 0 → Fin S2048x256.rank)
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1x1024x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S1x1024x2048 1 × IVec S2048x256 1 × IVec S256x2048 1 × IVec S2048x2048 1 × IVec S2048x512 1 × IVec S2048x32 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x2048 .f32 := Host.absf main_arg2
  let main_cst_1 : FVec F S_ .f32 := constant S_ .f32 0x7F800000#32
  let main_v7 : FVec F S256x2048 .f32 := broadcastInDim S256x2048 ![] bcast_S_S256x2048 main_cst_1
  let main_v8 : IVec S256x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x1024 : Shape := ⟨2, ![1024, 1024]⟩
abbrev S1024x256 : Shape := ⟨2, ![1024, 256]⟩
abbrev S1024x32 : Shape := ⟨2, ![1024, 32]⟩
abbrev S1024x128 : Shape := ⟨2, ![1024, 128]⟩
abbrev S2048x1024 : Shape := ⟨2, ![2048, 1024]⟩
abbrev S2048x256 : Shape := ⟨2, ![2048, 256]⟩
abbrev S5 : Shape := ⟨1, ![5]⟩
abbrev S3 : Shape := ⟨1, ![3]⟩
abbrev S1 : Shape := ⟨1, ![1]⟩
abbrev S_ : Shape := ⟨0, ![]⟩
abbrev S512x2048 : Shape := ⟨2, ![512, 2048]⟩
abbrev S512x128 : Shape := ⟨2, ![512, 128]⟩
abbrev S128x1024 : Shape := ⟨2, ![128, 1024]⟩
abbrev S8 : Shape := ⟨1, ![8]⟩
abbrev S1024 : Shape := ⟨1, ![1024]⟩
abbrev S1024x1 : Shape := ⟨2, ![1024, 1]⟩

abbrev nBuf : Space → Nat
  | .hbm => 15
  | .vmem => 28
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x1024, .bf16⟩
  | .hbm, ⟨10, _⟩ => ⟨S1024x1024, .bf16⟩
  | .hbm, ⟨11, _⟩ => ⟨S1024x256, .bf16⟩
  | .hbm, ⟨12, _⟩ => ⟨S1024x32, .bf16⟩
  | .hbm, ⟨13, _⟩ => ⟨S1024x1024, .bf16⟩
  | .hbm, ⟨14, _⟩ => ⟨S1x1024x2048, .bf16⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S1024x32, .bf16⟩
  | .local _ .vmem, ⟨7, _⟩ => ⟨S1024x1024, .bf16⟩
  | .local _ .vmem, ⟨8, _⟩ => ⟨S1024x128, .bf16⟩
  | .local _ .vmem, ⟨9, _⟩ => ⟨S1024x128, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S2048x1024, .f32⟩
  | .local _ .vmem, ⟨15, _⟩ => ⟨S2048x256, .f32⟩
  | .local _ .vmem, ⟨16, _⟩ => ⟨S1024x2048, .f32⟩
  | .local _ .vmem, ⟨17, _⟩ => ⟨S2048x32, .f32⟩
  | .local _ .vmem, ⟨18, _⟩ => ⟨S1024x1024, .bf16⟩
  | .local _ .vmem, ⟨19, _⟩ => ⟨S1024x256, .bf16⟩
  | .local _ .vmem, ⟨20, _⟩ => ⟨S1024x32, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024x2048, .bf16⟩
  | .local _ .vmem, ⟨24, _⟩ => ⟨S1024x1024, .bf16⟩
  | .local _ .vmem, ⟨25, _⟩ => ⟨S1024x1024, .bf16⟩
  | .local _ .vmem, ⟨26, _⟩ => ⟨S2048x2048, .f32⟩
  | .local _ .vmem, ⟨27, _⟩ => ⟨S1024x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 2 → Bool
  | ⟨0, _⟩ => false
  | ⟨1, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev barrier0 : Sem sig := 0
abbrev barrier1 : Sem sig := 1

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_11 : BitVec 32 := 16#32
  let v19 : BitVec 32 := Scalar.muli v9 c16_i32_11
  let v20 : BitVec 32 := Scalar.addi c0_i32_12 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v21 : BitVec 32 := Scalar.muli v5 c4_i32_13
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v23 : BitVec 32 := Scalar.muli v8 c1_i32_14
  let v24 : BitVec 32 := Scalar.addi v22 v23
  v24.toNat
def k0_dev2 (d0 : Dev nD) : Nat :=
  let c0_i32_26 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_25 : BitVec 32 := 16#32
  let v37 : BitVec 32 := Scalar.muli v9 c16_i32_25
  let v38 : BitVec 32 := Scalar.addi c0_i32_26 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v39 : BitVec 32 := Scalar.muli v5 c4_i32_27
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v41 : BitVec 32 := Scalar.muli v8 c1_i32_28
  let v42 : BitVec 32 := Scalar.addi v40 v41
  v42.toNat
def k0_dev3 (d0 : Dev nD) : Nat :=
  let c0_i32_32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_31 : BitVec 32 := 16#32
  let v47 : BitVec 32 := Scalar.muli v9 c16_i32_31
  let v48 : BitVec 32 := Scalar.addi c0_i32_32 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v49 : BitVec 32 := Scalar.muli v5 c4_i32_33
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v51 : BitVec 32 := Scalar.muli v8 c1_i32_34
  let v52 : BitVec 32 := Scalar.addi v50 v51
  v52.toNat
def k0_off1 (d0 : Dev nD) : Fin 2 → Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v57 : BitVec 32 := Scalar.muli v2 c1024_i32
  ![0, v57.toNat]
def k0_off2 (d0 : Dev nD) : Fin 2 → Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8_i32 : BitVec 32 := 8#32
  let v61 : BitVec 32 := Scalar.muli v2 c8_i32
  let c32_i32 : BitVec 32 := 32#32
  let v62 : BitVec 32 := Scalar.muli v61 c32_i32
  ![0, v62.toNat]
def k0_dev4 (d0 : Dev nD) : Nat :=
  let c0_i32_65 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_64 : BitVec 32 := 16#32
  let v92 : BitVec 32 := Scalar.muli v9 c16_i32_64
  let v93 : BitVec 32 := Scalar.addi c0_i32_65 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v94 : BitVec 32 := Scalar.muli v5 c4_i32_66
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v96 : BitVec 32 := Scalar.muli v8 c1_i32_67
  let v97 : BitVec 32 := Scalar.addi v95 v96
  v97.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

def k1_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k1_dev2 (d0 : Dev nD) : Nat :=
  let c0_i32_26 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_25 : BitVec 32 := 16#32
  let v43 : BitVec 32 := Scalar.muli v9 c16_i32_25
  let v44 : BitVec 32 := Scalar.addi c0_i32_26 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v45 : BitVec 32 := Scalar.muli v5 c4_i32_27
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v47 : BitVec 32 := Scalar.muli v8 c1_i32_28
  let v48 : BitVec 32 := Scalar.addi v46 v47
  v48.toNat
def k1_dev3 (d0 : Dev nD) : Nat :=
  let c0_i32_49 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_48 : BitVec 32 := 16#32
  let v79 : BitVec 32 := Scalar.muli v9 c16_i32_48
  let v80 : BitVec 32 := Scalar.addi c0_i32_49 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v81 : BitVec 32 := Scalar.muli v5 c4_i32_50
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v83 : BitVec 32 := Scalar.muli v8 c1_i32_51
  let v84 : BitVec 32 := Scalar.addi v82 v83
  v84.toNat
def k1_dev4 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v115 : BitVec 32 := Scalar.muli v9 c16_i32_70
  let v116 : BitVec 32 := Scalar.addi c0_i32_71 v115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v117 : BitVec 32 := Scalar.muli v5 c4_i32_72
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v119 : BitVec 32 := Scalar.muli v8 c1_i32_73
  let v120 : BitVec 32 := Scalar.addi v118 v119
  v120.toNat
def k1_dev5 (d0 : Dev nD) : Nat :=
  let c0_i32_92 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_91 : BitVec 32 := 16#32
  let v151 : BitVec 32 := Scalar.muli v9 c16_i32_91
  let v152 : BitVec 32 := Scalar.addi c0_i32_92 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v153 : BitVec 32 := Scalar.muli v5 c4_i32_93
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v155 : BitVec 32 := Scalar.muli v8 c1_i32_94
  let v156 : BitVec 32 := Scalar.addi v154 v155
  v156.toNat
def k1_dev6 (d0 : Dev nD) : Nat :=
  let c0_i32_115 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_114 : BitVec 32 := 16#32
  let v187 : BitVec 32 := Scalar.muli v9 c16_i32_114
  let v188 : BitVec 32 := Scalar.addi c0_i32_115 v187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v189 : BitVec 32 := Scalar.muli v5 c4_i32_116
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v191 : BitVec 32 := Scalar.muli v8 c1_i32_117
  let v192 : BitVec 32 := Scalar.addi v190 v191
  v192.toNat
def k1_dev7 (d0 : Dev nD) : Nat :=
  let c0_i32_136 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_135 : BitVec 32 := 16#32
  let v223 : BitVec 32 := Scalar.muli v9 c16_i32_135
  let v224 : BitVec 32 := Scalar.addi c0_i32_136 v223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_137 : BitVec 32 := 4#32
  let v225 : BitVec 32 := Scalar.muli v5 c4_i32_137
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v227 : BitVec 32 := Scalar.muli v8 c1_i32_138
  let v228 : BitVec 32 := Scalar.addi v226 v227
  v228.toNat
def k1_dev8 (d0 : Dev nD) : Nat :=
  let c0_i32_157 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_156 : BitVec 32 := 16#32
  let v259 : BitVec 32 := Scalar.muli v9 c16_i32_156
  let v260 : BitVec 32 := Scalar.addi c0_i32_157 v259
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_158 : BitVec 32 := 4#32
  let v261 : BitVec 32 := Scalar.muli v5 c4_i32_158
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v263 : BitVec 32 := Scalar.muli v8 c1_i32_159
  let v264 : BitVec 32 := Scalar.addi v262 v263
  v264.toNat
def k1_dev9 (d0 : Dev nD) : Nat :=
  let c0_i32_178 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_177 : BitVec 32 := 16#32
  let v295 : BitVec 32 := Scalar.muli v9 c16_i32_177
  let v296 : BitVec 32 := Scalar.addi c0_i32_178 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_179 : BitVec 32 := 4#32
  let v297 : BitVec 32 := Scalar.muli v5 c4_i32_179
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v299 : BitVec 32 := Scalar.muli v8 c1_i32_180
  let v300 : BitVec 32 := Scalar.addi v298 v299
  v300.toNat
abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1x1024x256 : Shape := ⟨3, ![1, 1024, 256]⟩
abbrev S1x1024x16x128 : Shape := ⟨4, ![1, 1024, 16, 128]⟩
abbrev S1x1024x512 : Shape := ⟨3, ![1, 1024, 512]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x256, .f32⟩
  | .hbm, ⟨9, _⟩ => ⟨S1x1024x2048, .f32⟩
  | .hbm, ⟨10, _⟩ => ⟨S1x1024x16x128, .f32⟩
  | .hbm, ⟨11, _⟩ => ⟨S1x1024x2048, .f32⟩
  | .hbm, ⟨12, _⟩ => ⟨S1x1024x16x128, .f32⟩
  | .hbm, ⟨13, _⟩ => ⟨S1x1024x2048, .f32⟩
  | .hbm, ⟨14, _⟩ => ⟨S1x1024x16x128, .f32⟩
  | .hbm, ⟨15, _⟩ => ⟨S1x1024x512, .f32⟩
  | .hbm, ⟨16, _⟩ => ⟨S1x1024x16x32, .f32⟩
  | .hbm, ⟨17, _⟩ => ⟨S1x1024x32, .f32⟩
  | .hbm, ⟨18, _⟩ => ⟨S1x1024x1x32, .f32⟩
  | .hbm, ⟨19, _⟩ => ⟨S1x16x1024x1024, .f32⟩
  | .hbm, ⟨20, _⟩ => ⟨S1x1024x16x32, .f32⟩
  | .hbm, ⟨21, _⟩ => ⟨S1x16x1024x1024, .f32⟩
  | .hbm, ⟨22, _⟩ => ⟨S1x16x1024x1024, .f32⟩
  | .hbm, ⟨23, _⟩ => ⟨S_, .f32⟩
  | .hbm, ⟨24, _⟩ => ⟨S1x16x1024x1024, .f32⟩
  | .hbm, ⟨25, _⟩ => ⟨S1x16x1024x1024, .f32⟩
  | .hbm, ⟨26, _⟩ => ⟨S_, .f32⟩
  | .hbm, ⟨27, _⟩ => ⟨S1x16x1024, .f32⟩
  | .hbm, ⟨28, _⟩ => ⟨S1x16x1024x1, .f32⟩
  | .hbm, ⟨29, _⟩ => ⟨S1x16x1024x1024, .f32⟩
  | .hbm, ⟨30, _⟩ => ⟨S1x16x1024x1024, .f32⟩
  | .hbm, ⟨31, _⟩ => ⟨S1x16x1024x1024, .f32⟩
  | .hbm, ⟨32, _⟩ => ⟨S_, .f32⟩
  | .hbm, ⟨33, _⟩ => ⟨S1x16x1024, .f32⟩
  | .hbm, ⟨34, _⟩ => ⟨S1x16x1024x1, .f32⟩
  | .hbm, ⟨35, _⟩ => ⟨S1x16x1024x1024, .f32⟩
  | .hbm, ⟨36, _⟩ => ⟨S1x16x1024x1024, .f32⟩
  | .hbm, ⟨37, _⟩ => ⟨S1x16x128x1024, .f32⟩
  | .hbm, ⟨38, _⟩ => ⟨S1x1024x16x128, .f32⟩
  | .hbm, ⟨39, _⟩ => ⟨S1x1024x2048, .f32⟩
  | .hbm, ⟨40, _⟩ => ⟨S1x1024x2048, .f32⟩
  | .hbm, ⟨41, _⟩ => ⟨S1x1024x2048, .bf16⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Common.lean ====
/- The pair of devices that exchange data, and the arrays a device computes on the way, as functions of
   what the devices hold at the start. -/
module

public import proofs.«01_k».proof.Defs
public import Idealize.ShloMosaic.Lib.Pointwise.Index
public import Idealize.ShloMosaic.Lib.Pipeline.Regions
public import Idealize.ShloMosaic.Lib.Pipeline.RegionTalk
public import Idealize.ShloMosaic.Lib.Pipeline.Launch
public import Idealize.ShloMosaic.Lib.Pipeline.Value
public import Idealize.ShloMosaic.Lib.Rounds
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The pair -/

set_option backward.proofsInPublic true in
/-- The other device of a pair: the one whose place on the mesh differs along `x` alone. -/
def pr (c : Dev nD) : Dev nD := ⟨(c.val + 16) % 32, Nat.mod_lt _ (by decide)⟩

theorem pr_pr (c : Dev nD) : pr (pr c) = c := by revert c; decide

theorem pr_ne (c : Dev nD) : pr c ≠ c := by revert c; decide

/-- Going to the other device, as a bijection. -/
def swap : Dev nD ≃ Dev nD := ⟨pr, pr, pr_pr, pr_pr⟩

/-! ## Arrays cut by rectangles -/

/-- The part of an array under a rectangle. -/
def cut {s : Shape} {α : Type} (r : Rect s) (f : s.Idx → α) : r.shape.Idx → α := fun i => f (r.emb i)

/-- Rows `o … o+511` of a 1024-row matrix of 2048 columns, and of 128 columns; of 1024 rows of the output weight. -/
abbrev xTop : Rect S1024x2048 := Rect.unit (s := S1024x2048) ![0, 0] S512x2048.size inb_S1024x2048_S512x2048_0_0
abbrev xBot : Rect S1024x2048 := Rect.unit (s := S1024x2048) ![512, 0] S512x2048.size inb_S1024x2048_S512x2048_512_0
abbrev woTop : Rect S2048x2048 := Rect.unit (s := S2048x2048) ![0, 0] S1024x2048.size inb_S2048x2048_S1024x2048_0_0
abbrev woBot : Rect S2048x2048 := Rect.unit (s := S2048x2048) ![1024, 0] S1024x2048.size inb_S2048x2048_S1024x2048_1024_0
/-- The left and right halves of a factor's columns. -/
abbrev wLeft : Rect S128x2048 := Rect.unit (s := S128x2048) ![0, 0] S128x1024.size inb_S128x2048_S128x1024_0_0
abbrev wRight : Rect S128x2048 := Rect.unit (s := S128x2048) ![0, 1024] S128x1024.size inb_S128x2048_S128x1024_0_1024
/-- The columns of the query weights that device `c` uses. -/
abbrev wqCols (c : Dev nD) : Rect S2048x2048 := Rect.unit (s := S2048x2048) (k0_off1 c) S2048x1024.size (k0_off1_inb c)
abbrev wqrCols (c : Dev nD) : Rect S2048x512 := Rect.unit (s := S2048x512) (k0_off2 c) S2048x256.size (k0_off2_inb c)

theorem headCols_inb (h : Fin 8) : ∀ a, (![0, 128 * h.val] : Fin 2 → ℕ) a + S1024x128.size a ≤ S1024x1024.size a := by
  revert h; decide
theorem ropeCols_inb (h : Fin 8) : ∀ a, (![0, 32 * h.val] : Fin 2 → ℕ) a + S1024x32.size a ≤ S1024x256.size a := by
  revert h; decide
/-- The columns of local head `h`, in the 128-wide and in the 32-wide arrays. -/
abbrev headCols (h : Fin 8) : Rect S1024x1024 := Rect.unit (s := S1024x1024) ![0, 128 * h.val] S1024x128.size (headCols_inb h)
abbrev ropeCols (h : Fin 8) : Rect S1024x256 := Rect.unit (s := S1024x256) ![0, 32 * h.val] S1024x32.size (ropeCols_inb h)

/-! ## What a device holds, as a function of the memories at the start -/

variable (m : (ℓ : Loc nD τ sig) → Buf (Elt F) ℓ)

/-- Device `c`'s arrays at the start, and after the reshape of `x`. -/
abbrev V₀ (c : Dev nD) : Valuation τ sig (Elt F) := fun b => m ((c : Dev nD), b)
abbrev V₁ (c : Dev nD) : Valuation τ sig (Elt F) := StableHlo.after Gen.hostOps0 (V₀ m c)

abbrev xA (c : Dev nD) : Vec F S1024x2048 .f32 := V₁ m c main_v1
abbrev wdkvA (c : Dev nD) : Vec F S2048x128 .f32 := V₁ m c main_arg1
abbrev wukA (c : Dev nD) : Vec F S128x2048 .f32 := V₁ m c main_arg2
abbrev wuvA (c : Dev nD) : Vec F S128x2048 .f32 := V₁ m c main_arg3
abbrev wqA (c : Dev nD) : Vec F S2048x2048 .f32 := V₁ m c main_arg4
abbrev wqrA (c : Dev nD) : Vec F S2048x512 .f32 := V₁ m c main_arg5
abbrev wkrA (c : Dev nD) : Vec F S2048x32 .f32 := V₁ m c main_arg6
abbrev woA (c : Dev nD) : Vec F S2048x2048 .f32 := V₁ m c main_arg7

/-- The factors in the narrow format. -/
def wukB (c : Dev nD) : Vec F S128x2048 .bf16 := k0_pay6 (k0_pay5 (wukA m c))
def wuvB (c : Dev nD) : Vec F S128x2048 .bf16 := k0_pay7 (wuvA m c)

/-- The latent, computed in two halves of its rows. -/
def latTop (c : Dev nD) : Vec F S512x128 .bf16 := k0_pay8 (cut xTop (xA m c)) (wdkvA m c)
def latBot (c : Dev nD) : Vec F S512x128 .bf16 := k0_pay10 (k0_pay9 (cut xBot (xA m c)) (wdkvA m c))
def lat (c : Dev nD) : Vec F S1024x128 .bf16 := fun i =>
  if h : (i 0).val < 512 then latTop m c (ix2 ⟨(i 0).val, h⟩ (i 1))
  else latBot m c (ix2 ⟨(i 0).val - 512, by have : (i 0).val < 1024 := (i 0).isLt; omega⟩ (i 1))

/-- The keys and values of the device's heads: its own product and its partner's. -/
def keys (c : Dev nD) : Vec F S1024x1024 .bf16 :=
  if c.val < 16 then k0_pay1 (lat m c) (cut wLeft (wukB m c)) (lat m (pr c)) (cut wLeft (wukB m (pr c)))
  else k0_pay3 (lat m c) (cut wRight (wukB m c)) (lat m (pr c)) (cut wRight (wukB m (pr c)))
def vals (c : Dev nD) : Vec F S1024x1024 .bf16 :=
  if c.val < 16 then k0_pay2 (lat m c) (cut wLeft (wuvB m c)) (lat m (pr c)) (cut wLeft (wuvB m (pr c)))
  else k0_pay4 (lat m c) (cut wRight (wuvB m c)) (lat m (pr c)) (cut wRight (wuvB m (pr c)))

/-- The rotary keys, the rotary queries and the queries. -/
def ropeKeys (c : Dev nD) : Vec F S1024x32 .bf16 := k0_pay11 (xA m c) (wkrA m c)
def ropeQueries (c : Dev nD) : Vec F S1024x256 .bf16 := k0_pay12 (xA m c) (cut (wqrCols c) (wqrA m c))
def queries (c : Dev nD) : Vec F S1024x1024 .bf16 := k0_pay13 (xA m c) (cut (wqCols c) (wqA m c))

/-- One head's output from the rotary keys and that head's columns. -/
def headVal (kr : Vec F S1024x32 .bf16) (q k : Vec F S1024x128 .bf16) (qr : Vec F S1024x32 .bf16) (v : Vec F S1024x128 .bf16) :
    Vec F S1024x128 .bf16 := k1_pay20 (k1_pay2 kr) q k qr v

def headOut (c : Dev nD) (h : Fin 8) : Vec F S1024x128 .bf16 :=
  headVal (ropeKeys m c) (cut (headCols h) (queries m c)) (cut (headCols h) (keys m c)) (cut (ropeCols h) (ropeQueries m c))
    (cut (headCols h) (vals m c))

/-- All heads side by side. -/
def heads (c : Dev nD) : Vec F S1024x1024 .bf16 := fun i =>
  headOut m c ⟨(i 1).val / 128, by have : (i 1).val < 1024 := (i 1).isLt; omega⟩ (ix2 (i 0) ⟨(i 1).val % 128, Nat.mod_lt _ (by decide)⟩)

/-- The product with the rows of the output weight that belong to the device's own heads, and the result. -/
def ownPart (c : Dev nD) : Vec F S1024x2048 .f32 :=
  if c.val < 16 then k1_pay22 (heads m c) (cut woTop (woA m c)) else k1_pay23 (heads m c) (cut woBot (woA m c))
def result (c : Dev nD) : Vec F S1x1024x2048 .bf16 :=
  if c.val < 16 then k1_pay24 (ownPart m c) (heads m (pr c)) (cut woBot (woA m c))
  else k1_pay1 (ownPart m c) (heads m (pr c)) (cut woTop (woA m c))

/-! ## The eight heads are one function -/

theorem head0_eq (kr : Vec F S1024x32 .bf16) (q k : Vec F S1024x128 .bf16) (qr : Vec F S1024x32 .bf16) (v : Vec F S1024x128 .bf16) :
    k1_pay5 (k1_pay3 kr q k qr) (k1_pay4 kr q k qr) v = headVal kr q k qr v := rfl
theorem head1_eq (kr : Vec F S1024x32 .bf16) (q k : Vec F S1024x128 .bf16) (qr : Vec F S1024x32 .bf16) (v : Vec F S1024x128 .bf16) :
    k1_pay7 (k1_pay6 (k1_pay2 kr) q k qr) v = headVal kr q k qr v := rfl
theorem head2_eq (kr : Vec F S1024x32 .bf16) (q k : Vec F S1024x128 .bf16) (qr : Vec F S1024x32 .bf16) (v : Vec F S1024x128 .bf16) :
    k1_pay10 (k1_pay2 kr) (k1_pay8 qr) (k1_pay9 q k) (constant S1024x1024 .f32 0x00000000#32) v = headVal kr q k qr v := rfl
theorem head3_eq (kr : Vec F S1024x32 .bf16) (q k : Vec F S1024x128 .bf16) (qr : Vec F S1024x32 .bf16) (v : Vec F S1024x128 .bf16) :
    k1_pay14 (k1_pay2 kr) (k1_pay11 q) (k1_pay12 k) (k1_pay13 qr) v = headVal kr q k qr v := rfl
theorem head4_eq (kr : Vec F S1024x32 .bf16) (q k : Vec F S1024x128 .bf16) (qr : Vec F S1024x32 .bf16) (v : Vec F S1024x128 .bf16) :
    k1_pay17 (k1_pay2 kr) (k1_pay15 q) (k1_pay16 k) qr v = headVal kr q k qr v := rfl
theorem head5_eq (kr : Vec F S1024x32 .bf16) (q k : Vec F S1024x128 .bf16) (qr : Vec F S1024x32 .bf16) (v : Vec F S1024x128 .bf16) :
    k1_pay19 (k1_pay2 kr) (k1_pay18 q) k qr v = headVal kr q k qr v := rfl
theorem head7_eq (kr : Vec F S1024x32 .bf16) (q k : Vec F S1024x128 .bf16) (qr : Vec F S1024x32 .bf16) (v : Vec F S1024x128 .bf16) :
    k1_pay21 (k1_pay2 kr) q k qr v = headVal kr q k qr v := rfl

/-! ## The printed device numbers -/

theorem k0_dev1_pr : ∀ c : Dev nD, (⟨k0_dev1 c, k0_dev1_lt c⟩ : Dev nD) = pr c := by decide +kernel
theorem k0_dev2_pr : ∀ c : Dev nD, (⟨k0_dev2 c, k0_dev2_lt c⟩ : Dev nD) = pr c := by decide +kernel
theorem k0_dev3_pr : ∀ c : Dev nD, (⟨k0_dev3 c, k0_dev3_lt c⟩ : Dev nD) = pr c := by decide +kernel
theorem k0_dev4_pr : ∀ c : Dev nD, (⟨k0_dev4 c, k0_dev4_lt c⟩ : Dev nD) = pr c := by decide +kernel
theorem k1_dev1_pr : ∀ c : Dev nD, (⟨k1_dev1 c, k1_dev1_lt c⟩ : Dev nD) = pr c := by decide +kernel
theorem k1_dev2_pr : ∀ c : Dev nD, (⟨k1_dev2 c, k1_dev2_lt c⟩ : Dev nD) = pr c := by decide +kernel
theorem k1_dev3_pr : ∀ c : Dev nD, (⟨k1_dev3 c, k1_dev3_lt c⟩ : Dev nD) = pr c := by decide +kernel
theorem k1_dev4_pr : ∀ c : Dev nD, (⟨k1_dev4 c, k1_dev4_lt c⟩ : Dev nD) = pr c := by decide +kernel
theorem k1_dev5_pr : ∀ c : Dev nD, (⟨k1_dev5 c, k1_dev5_lt c⟩ : Dev nD) = pr c := by decide +kernel
theorem k1_dev6_pr : ∀ c : Dev nD, (⟨k1_dev6 c, k1_dev6_lt c⟩ : Dev nD) = pr c := by decide +kernel
theorem k1_dev7_pr : ∀ c : Dev nD, (⟨k1_dev7 c, k1_dev7_lt c⟩ : Dev nD) = pr c := by decide +kernel
theorem k1_dev8_pr : ∀ c : Dev nD, (⟨k1_dev8 c, k1_dev8_lt c⟩ : Dev nD) = pr c := by decide +kernel
theorem k1_dev9_pr : ∀ c : Dev nD, (⟨k1_dev9 c, k1_dev9_lt c⟩ : Dev nD) = pr c := by decide +kernel

end Cert.Proof.Mla

end
-- ==== Proof.Schedule.lean ====
/- The protocol of the two calls: which cells are used, what each transfer and each barrier unit hands over,
   what a device owes, and the order in which cells may be waited for. Every cell is used for one round. -/
module

public import proofs.«01_k».proof.Proof.Common

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipelines' own part and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

/-! ## Buffers and cells -/

abbrev xM : Memref sig .tc .hbm S1024x2048 .f32 := Memref.whole main_v1
abbrev wqM : Memref sig .tc .hbm S2048x2048 .f32 := Memref.whole main_arg4
abbrev wqrM : Memref sig .tc .hbm S2048x512 .f32 := Memref.whole main_arg5
abbrev wkrM : Memref sig .tc .hbm S2048x32 .f32 := Memref.whole main_arg6
abbrev woM : Memref sig .tc .hbm S2048x2048 .f32 := Memref.whole main_arg7
abbrev latM : Memref sig .tc .vmem S1024x128 .bf16 := Memref.whole cc0_scratch0
abbrev latRxM : Memref sig .tc .vmem S1024x128 .bf16 := Memref.whole cc0_scratch1
abbrev wukM : Memref sig .tc .vmem S128x2048 .bf16 := Memref.whole cc0_scratch2
abbrev wukRxM : Memref sig .tc .vmem S128x2048 .bf16 := Memref.whole cc0_scratch3
abbrev wuvM : Memref sig .tc .vmem S128x2048 .bf16 := Memref.whole cc0_scratch4
abbrev wuvRxM : Memref sig .tc .vmem S128x2048 .bf16 := Memref.whole cc0_scratch5
abbrev wqvM : Memref sig .tc .vmem S2048x1024 .f32 := Memref.whole cc0_scratch6
abbrev wqrvM : Memref sig .tc .vmem S2048x256 .f32 := Memref.whole cc0_scratch7
abbrev xvM : Memref sig .tc .vmem S1024x2048 .f32 := Memref.whole cc0_scratch8
abbrev wkrvM : Memref sig .tc .vmem S2048x32 .f32 := Memref.whole cc0_scratch9
abbrev oM : Memref sig .tc .vmem S1024x1024 .bf16 := Memref.whole cc1_scratch0
abbrev oRxM : Memref sig .tc .vmem S1024x1024 .bf16 := Memref.whole cc1_scratch1
abbrev wovM : Memref sig .tc .vmem S2048x2048 .f32 := Memref.whole cc1_scratch2
abbrev accM : Memref sig .tc .vmem S1024x2048 .f32 := Memref.whole cc1_scratch3

/-- The column block of local head `h` in the heads' outputs, and in the partner's received ones. -/
abbrev oCol (h : Fin 8) : Memref sig .tc .vmem S1024x128 .bf16 := oM.slice (headCols h) (fun _ => rfl)
abbrev oRxCol (h : Fin 8) : Memref sig .tc .vmem S1024x128 .bf16 := oRxM.slice (headCols h) (fun _ => rfl)

/-- The elements a memref names on device `c`, held at the contents `f`. -/
def part {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

instance part_storable {sp : Space} {s : Shape} {e : EltTy} (M : Memref sig .tc sp s e) (c : Dev nD) (q : PosShare TreeShare)
    (f : Buf (Elt F) (M.view.loc (c : Thread nD τ))) : BI.Storable (upEmb : UEmb _ 𝕄) (part M c q f) := by unfold part; infer_instance

abbrev bar0 : Sem sig := ⟨0, by decide⟩
abbrev bar1 : Sem sig := ⟨1, by decide⟩
abbrev bcell (c : Dev nD) (b : Sem sig) : GSem nD τ sig := ((c : Thread nD τ), .reg b)
abbrev dcell (c : Dev nD) (n : DmaSem sig) : GSem nD τ sig := ((c : Thread nD τ), .dma n)
/-- The cells of the eight heads' transfers: the sender's and the receiver's. -/
abbrev sendS (h : Fin 8) : DmaSem sig := ⟨26 + h.val, by have := h.isLt; show 26 + h.val < 42; omega⟩
abbrev recvS (h : Fin 8) : DmaSem sig := ⟨34 + h.val, by have := h.isLt; show 34 + h.val < 42; omega⟩

variable (m : (ℓ : Loc nD τ sig) → Buf (Elt F) ℓ)

/-! ## What a cell's one round hands over -/

/-- A transfer's units: the elements its destination counts. -/
def dmaAmt (n : DmaSem sig) : ℕ :=
  if n.val = 8 then wqvM.view.dmaCredit
  else if n.val = 9 then wqrvM.view.dmaCredit
  else if n.val = 10 ∨ n.val = 11 then (xvM.slice xTop (fun _ => rfl)).view.dmaCredit
  else if n.val = 12 then wkrvM.view.dmaCredit
  else if n.val = 15 ∨ n.val = 18 then latM.view.dmaCredit
  else if n.val < 18 then wukM.view.dmaCredit
  else if n.val = 25 then wovM.view.dmaCredit
  else (oCol 0).view.dmaCredit

/-- A local copy hands back its source and its destination, filled; a remote one hands the sender its source and
    the receiver the destination, holding what the partner sent. -/
def dmaPay (c : Dev nD) (n : DmaSem sig) : sProp 𝕄 :=
  if n.val = 8 then iprop(part wqvM c fullShare (cut (wqCols c) (wqA m c)) ∗ part (wqM.slice (wqCols c) (fun _ => rfl)) c fullShare (wqA m c))
  else if n.val = 9 then
    iprop(part wqrvM c fullShare (cut (wqrCols c) (wqrA m c)) ∗ part (wqrM.slice (wqrCols c) (fun _ => rfl)) c fullShare (wqrA m c))
  else if n.val = 10 then
    iprop(part (xvM.slice xTop (fun _ => rfl)) c fullShare (xA m c) ∗ part (xM.slice xTop (fun _ => rfl)) c fullShare (xA m c))
  else if n.val = 11 then
    iprop(part (xvM.slice xBot (fun _ => rfl)) c fullShare (xA m c) ∗ part (xM.slice xBot (fun _ => rfl)) c fullShare (xA m c))
  else if n.val = 12 then iprop(part wkrvM c fullShare (wkrA m c) ∗ part wkrM c fullShare (wkrA m c))
  else if n.val = 13 then part wukM c fullShare (wukB m c)
  else if n.val = 14 then part wuvM c fullShare (wuvB m c)
  else if n.val = 15 then part latM c fullShare (lat m c)
  else if n.val = 16 then part wukRxM c fullShare (wukB m (pr c))
  else if n.val = 17 then part wuvRxM c fullShare (wuvB m (pr c))
  else if n.val = 18 then part latRxM c fullShare (lat m (pr c))
  else if n.val = 25 then iprop(part wovM c fullShare (woA m c) ∗ part woM c fullShare (woA m c))
  else if h : 26 ≤ n.val ∧ n.val < 34 then part (oCol ⟨n.val - 26, by omega⟩) c fullShare.left (heads m c)
  else if h : 34 ≤ n.val ∧ n.val < 42 then part (oRxCol ⟨n.val - 34, by omega⟩) c fullShare (heads m (pr c))
  else iprop(emp)

/-- The partner's barrier unit hands over the buffers it receives in, and that their cells stand at their round. -/
def barPay0 (c : Dev nD) : sProp 𝕄 :=
  iprop((∃ f, part latRxM (pr c) fullShare f) ∗ (∃ f, part wukRxM (pr c) fullShare f) ∗ (∃ f, part wuvRxM (pr c) fullShare f)
    ∗ reached ER (dcell (pr c) 16) 0 ∗ reached ER (dcell (pr c) 17) 0 ∗ reached ER (dcell (pr c) 18) 0)
def barPay1 (c : Dev nD) : sProp 𝕄 :=
  bigSep Finset.univ fun h : Fin 8 => iprop((∃ f, part (oRxCol h) (pr c) fullShare f) ∗ reached ER (dcell (pr c) (recvS h)) 0)

/-- The cells of the protocol. -/
def IsTalk : SemLoc sig → Bool
  | .reg _ => true
  | .dma n => (8 ≤ n.val && n.val < 19) || 25 ≤ n.val

def sched : Rounds.Schedule (GSem nD τ sig) Unit 𝕄 where
  duties g r := if r = 0 ∧ g.1.2 = .tc ∧ IsTalk g.2 = true then {()} else ∅
  unitless _ := False
  amount g _ _ := match g.2 with
    | .reg _ => 1
    | .dma n => dmaAmt n
  payload g _ _ := match g.2 with
    | .reg b => if b = bar0 then barPay0 g.1.1 else barPay1 g.1.1
    | .dma n => dmaPay m g.1.1 n
  amount_pos g _ _ _ := by
    rcases g with ⟨_, s⟩
    cases s with
    | reg _ => exact Nat.one_pos
    | dma n =>
      show 0 < dmaAmt n
      unfold dmaAmt
      (repeat' split) <;> exact View.dmaCredit_pos _ (by decide)

theorem storable_ite {p : Prop} [Decidable p] {P Q : sProp 𝕄} (hP : BI.Storable (upEmb : UEmb _ 𝕄) P) (hQ : BI.Storable (upEmb : UEmb _ 𝕄) Q) :
    BI.Storable (upEmb : UEmb _ 𝕄) (if p then P else Q) := by
  by_cases h : p
  · rw [if_pos h]; exact hP
  · rw [if_neg h]; exact hQ
theorem storable_dite {p : Prop} [Decidable p] {P : p → sProp 𝕄} {Q : sProp 𝕄} (hP : ∀ h, BI.Storable (upEmb : UEmb _ 𝕄) (P h))
    (hQ : BI.Storable (upEmb : UEmb _ 𝕄) Q) : BI.Storable (upEmb : UEmb _ 𝕄) (if h : p then P h else Q) := by
  by_cases h : p
  · rw [dif_pos h]; exact hP h
  · rw [dif_neg h]; exact hQ

instance dmaPay_storable (c : Dev nD) (n : DmaSem sig) : BI.Storable (upEmb : UEmb _ 𝕄) (dmaPay m c n) := by
  unfold dmaPay
  repeat' first | apply storable_ite | (apply storable_dite; intro _)
  all_goals infer_instance

instance barPay0_storable (c : Dev nD) : BI.Storable (upEmb : UEmb _ 𝕄) (barPay0 c) := by unfold barPay0; infer_instance
instance barPay1_storable (c : Dev nD) : BI.Storable (upEmb : UEmb _ 𝕄) (barPay1 c) := by unfold barPay1; infer_instance

theorem barPay0_eq (c : Dev nD) : (barPay0 c : sProp 𝕄) = iprop((∃ f, part latRxM (pr c) fullShare f) ∗ (∃ f, part wukRxM (pr c) fullShare f)
    ∗ (∃ f, part wuvRxM (pr c) fullShare f) ∗ reached ER (dcell (pr c) 16) 0 ∗ reached ER (dcell (pr c) 17) 0 ∗ reached ER (dcell (pr c) 18) 0) := rfl
theorem barPay1_eq (c : Dev nD) : (barPay1 c : sProp 𝕄)
    = bigSep Finset.univ fun h : Fin 8 => iprop((∃ f, part (oRxCol h) (pr c) fullShare f) ∗ reached ER (dcell (pr c) (recvS h)) 0) := rfl
attribute [irreducible] barPay0 barPay1

instance sched_payload_storable (g : GSem nD τ sig) (r : ℕ) (d : Unit) :
    BI.Storable (upEmb : UEmb _ 𝕄) ((sched (F := F) m).payload g r d) := by
  rcases g with ⟨t, s⟩
  cases s with
  | reg b =>
    show BI.Storable upEmb (if b = bar0 then barPay0 t.1 else barPay1 t.1)
    split <;> infer_instance
  | dma n => exact dmaPay_storable m t.1 n

section Tables
variable (c : Dev nD)

theorem duties_talk (s : SemLoc sig) (hs : IsTalk s = true) : (sched (F := F) m).duties ((c : Thread nD τ), s) 0 = {()} :=
  if_pos ⟨rfl, rfl, hs⟩
theorem duties_later (g : GSem nD τ sig) : ∀ r, 0 + 1 ≤ r → (sched (F := F) m).duties g r = ∅ :=
  fun r hr => if_neg (fun h => by omega)
theorem expect_dma (n : DmaSem sig) (hs : IsTalk (.dma n) = true) : (sched (F := F) m).expect (dcell c n) 0 = dmaAmt n := by
  unfold Schedule.expect Schedule.amountOf; rw [duties_talk m c _ hs, Finset.sum_singleton]; rfl
theorem expect_bar (b : Sem sig) : (sched (F := F) m).expect (bcell c b) 0 = 1 := by
  unfold Schedule.expect Schedule.amountOf; rw [duties_talk m c _ rfl, Finset.sum_singleton]; rfl
theorem rest_dma (n : DmaSem sig) (hs : IsTalk (.dma n) = true) :
    bigSep ((sched (F := F) m).duties (dcell c n) 0 \ ∅) (fun u => (sched (F := F) m).payload (dcell c n) 0 u) = dmaPay m c n := by
  rw [Finset.sdiff_empty, duties_talk m c _ hs, bigSep_singleton]; rfl
theorem rest_bar0 :
    bigSep ((sched (F := F) m).duties (bcell c bar0) 0 \ ∅) (fun u => (sched (F := F) m).payload (bcell c bar0) 0 u) = barPay0 c := by
  rw [Finset.sdiff_empty, duties_talk m c _ rfl, bigSep_singleton]
  show (if bar0 = bar0 then barPay0 c else barPay1 c : sProp 𝕄) = barPay0 c
  rw [if_pos rfl]
theorem bar1_ne : bar1 ≠ bar0 := by decide
theorem rest_bar1 :
    bigSep ((sched (F := F) m).duties (bcell c bar1) 0 \ ∅) (fun u => (sched (F := F) m).payload (bcell c bar1) 0 u) = barPay1 c := by
  rw [Finset.sdiff_empty, duties_talk m c _ rfl, bigSep_singleton]
  show (if bar1 = bar0 then barPay0 c else barPay1 c : sProp 𝕄) = barPay1 c
  rw [if_neg bar1_ne]

theorem amt_send (h : Fin 8) : dmaAmt (sendS h) = (oCol 0).view.dmaCredit := by revert h; decide +kernel
theorem amt_recv (h : Fin 8) : dmaAmt (recvS h) = (oCol 0).view.dmaCredit := by revert h; decide +kernel
theorem talk_send (h : Fin 8) : IsTalk (.dma (sendS h)) = true := by revert h; decide
theorem talk_recv (h : Fin 8) : IsTalk (.dma (recvS h)) = true := by revert h; decide
theorem pay_send (h : Fin 8) : dmaPay m c (sendS h) = part (oCol h) c fullShare.left (heads m c) := by
  fin_cases h <;> rfl
theorem pay_recv (h : Fin 8) : dmaPay m c (recvS h) = part (oRxCol h) c fullShare (heads m (pr c)) := by
  fin_cases h <;> rfl

end Tables

/-! ## What a device owes, and the levels of the cells -/

/-- What device `c` owes its partner's cell for the head `h`, and for the heads from the `k`-th on. -/
def headDue (c : Dev nD) (h : Fin 8) : CellTallies nD τ sig Unit := tallyAt (dcell (pr c) (recvS h)) () (dmaAmt (recvS h))
def headDues (c : Dev nD) (k : ℕ) : CellTallies nD τ sig Unit := ∑ h : Fin 8 with k ≤ h.val, headDue c h
/-- What the second call owes, and what the first. -/
def due1 (c : Dev nD) : CellTallies nD τ sig Unit := headDues c 0 + tallyAt (bcell (pr c) bar1) () 1
def due0 (c : Dev nD) : CellTallies nD τ sig Unit :=
  tallyAt (dcell (pr c) 18) () (dmaAmt 18) + tallyAt (dcell (pr c) 17) () (dmaAmt 17) + tallyAt (dcell (pr c) 16) () (dmaAmt 16)
    + tallyAt (bcell (pr c) bar0) () 1

theorem headDues_step (c : Dev nD) (h : Fin 8) : headDues c h.val = headDues c (h.val + 1) + headDue c h := by
  unfold headDues
  have : (Finset.univ.filter fun j : Fin 8 => h.val ≤ j.val) = insert h (Finset.univ.filter fun j : Fin 8 => h.val + 1 ≤ j.val) := by
    ext j; simp [Finset.mem_filter, Fin.ext_iff]; omega
  rw [this, Finset.sum_insert (by simp), add_comm]
theorem headDues_end (c : Dev nD) : headDues c 8 = 0 := by
  unfold headDues
  exact Finset.sum_eq_zero fun j hj => absurd (Finset.mem_filter.mp hj).2 (by have := j.isLt; omega)

def L (g : GSem nD τ sig) : Finset Unit := if g.1.2 = .tc then {()} else ∅
/-- First the first call's barrier, then what it receives, then the second call's barrier, then what that receives;
    the cells a device fills itself come before all of them. -/
def lvl : SemLoc sig → ℕ
  | .reg b => if b = bar0 then 1 else 3
  | .dma n => if 16 ≤ n.val ∧ n.val < 19 then 2 else if 34 ≤ n.val then 4 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lvl_recv (h : Fin 8) : lvl (.dma (recvS h)) = 4 := by revert h; decide

/-- Everything owed lies above level `n`. -/
def Above (n : ℕ) (O : CellTallies nD τ sig Unit) : Prop := ∀ g u, 0 < O g u → g.1.2 = .tc ∧ n < lvl g.2

theorem Above.zero (n : ℕ) : Above n 0 := fun _ _ h => absurd h (Nat.lt_irrefl 0)
theorem Above.add {n : ℕ} {O P : CellTallies nD τ sig Unit} (hO : Above n O) (hP : Above n P) : Above n (O + P) := fun g u h => by
  by_cases h' : 0 < O g u
  · exact hO g u h'
  · exact hP g u (by have : 0 < O g u + P g u := h; omega)
theorem Above.tally {n : ℕ} (c : Dev nD) (s : SemLoc sig) (k : ℕ) (h : n < lvl s) : Above n (tallyAt ((c : Thread nD τ), s) () k) := fun g u hg => by
  rw [tallyAt_apply] at hg
  by_cases h' : g = ((c : Thread nD τ), s) ∧ u = ()
  · rw [h'.1]; exact ⟨rfl, h⟩
  · rw [if_neg h'] at hg; exact absurd hg (Nat.lt_irrefl 0)
theorem Above.heads {n : ℕ} (hn : n < 4) (c : Dev nD) (k : ℕ) : Above n (headDues c k) := by
  unfold headDues
  refine Finset.sum_induction _ (Above n) (fun _ _ => Above.add) (Above.zero n) fun j _ => ?_
  exact Above.tally _ _ _ (by rw [lvl_recv]; exact hn)
theorem Above.mono {n k : ℕ} (h : k ≤ n) {O : CellTallies nD τ sig Unit} (hO : Above n O) : Above k O :=
  fun g u hg => ⟨(hO g u hg).1, lt_of_le_of_lt h (hO g u hg).2⟩
theorem above_due1 (c : Dev nD) : Above 2 (due1 c) := (Above.heads (by decide) c 0).add (Above.tally _ _ _ (by decide))

theorem mayWait (c : Dev nD) (s : SemLoc sig) {O : CellTallies nD τ sig Unit} (h : Above (lvl s) O) :
    (levAts L lv : sProp 𝕄) ⊢ MayWait (c : Thread nD τ) s () O :=
  MayOwe.of_cut (L := L) (lev := lv) (lvl s) (fun p hp => by rw [Finset.mem_singleton.mp hp, L_tc]; exact Finset.mem_singleton_self _)
    (fun g u hg => by
      have h' := (h g u hg).1
      show u ∈ (if g.1.2 = .tc then {()} else ∅ : Finset Unit)
      rw [if_pos h']; exact Finset.mem_singleton_self _)
    (fun p hp => by rw [Finset.mem_singleton.mp hp]; exact le_refl _)
    (fun g u hg => (h g u hg).2)

end Cert.Proof.Mla

end
-- ==== Proof.Steps.lean ====
/- The steps of the two bodies, each in the form the bodies use: a load, a store, a copy within the device,
   a copy to the partner, a wait for a copy, and the barrier's unit and its wait. -/
module

public import proofs.«01_k».proof.Proof.Schedule

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## The state of a cell -/

/-- A cell of device `c` before its transfer is started by `c` itself. -/
def ready (c : Dev nD) (n : DmaSem sig) : sProp 𝕄 :=
  iprop(cellInv ER (sched m) (K (dcell c n)) (dcell c n) ∗ dutyTok ER (dcell c n) 0 () ∗ atPos ER (dcell c n) 0 ∅ 0 ∗ reached ER (dcell c n) 0)
/-- A cell of device `c` whose transfer `c` will wait for. -/
def flying (c : Dev nD) (n : DmaSem sig) : sProp 𝕄 :=
  iprop(cellInv ER (sched m) (K (dcell c n)) (dcell c n) ∗ cred (tallyAt (dcell c n) () (dmaAmt n)) ∗ atPos ER (dcell c n) 0 ∅ 0)
/-- The right to fill the cell of device `c`, held by its partner. -/
def outgoing (c : Dev nD) (n : DmaSem sig) : sProp 𝕄 :=
  iprop(cellInv ER (sched m) (K (dcell c n)) (dcell c n) ∗ dutyTok ER (dcell c n) 0 ())
/-- A cell after its round: its counter at zero. -/
def spent (c : Dev nD) (s : SemLoc sig) : sProp 𝕄 := semVal ((c : Thread nD τ), s) 0
/-- What device `c` still owes. -/
def owe (c : Dev nD) (O : CellTallies nD τ sig Unit) : sProp 𝕄 := iprop(∃ W, owes (c : Thread nD τ) O W)

/-- The barrier cell as its owner and as its partner hold it. -/
def barOwn (c : Dev nD) (b : Sem sig) : sProp 𝕄 :=
  iprop(cellInv ER (sched m) (K (bcell c b)) (bcell c b) ∗ cred (tallyAt (bcell c b) () 1) ∗ atPos ER (bcell c b) 0 ∅ 0)
def barOut (c : Dev nD) (b : Sem sig) : sProp 𝕄 :=
  iprop(cellInv ER (sched m) (K (bcell c b)) (bcell c b) ∗ dutyTok ER (bcell c b) 0 () ∗ reached ER (bcell c b) 0)

/-! ## The steps -/

variable (c : Dev nD) {α : Type} {Q : α → sProp (MT nD τ sig Unit (Elt F) ℕ UU ℕ)}

/-- A program's weakest precondition on device `c`. -/
def run (p : Prog (TpuEff nD τ sig (Elt F) Λ₀ .tc) α) (Q : α → sProp 𝕄) : sProp 𝕄 :=
  wp frame (wpE (defs₀ (F := F)) 𝒱₀ (c : Thread nD τ) none) Set.univ p Q

theorem step_load {cs : CoreSpace} {s : Shape} {e : EltTy} {M : Memref sig .tc cs s e} {r : LoadRect s} {hl : M.view.LoadsAt r}
    {k : (r.shape.Idx → Elt F e) → Prog (TpuEff nD τ sig (Elt F) Λ₀ .tc) α} {q : PosShare TreeShare}
    {f : Buf (Elt F) (M.view.loc (c : Thread nD τ))} (v : r.shape.Idx → Elt F e) (hv : M.view.readAt (Elt F) r f = v) :
    part M c q f ⊢ iprop((part M c q f -∗ run c (k v) Q) -∗ run c (.op (.load M r hl) k) Q) := by
  subst hv
  exact wp_load 𝒱₀ (c : Thread nD τ) none Set.univ (View.setOn_subset_set _ _)

theorem step_store {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α}
    {f : Buf (Elt F) (M.view.loc (c : Thread nD τ))} (g : Buf (Elt F) (M.view.loc (c : Thread nD τ)))
    (hv : (M.access r).write (Elt F) f w Finset.univ = g) :
    part M c fullShare f ⊢ iprop((part M c fullShare g -∗ run c (k ⟨⟩) Q) -∗ run c (.op (.store M r w Finset.univ hx hm) k) Q) := by
  have h := wp_store (defs := defs₀ (F := F)) (U := UU) (Name := ℕ) (Ix := Unit) (Lvl := ℕ) 𝒱₀ (c : Thread nD τ) none (Γ := []) Set.univ
    (m := M) (r := r) (w := w) (Mk := Finset.univ) (hx := hx) (hm := hm) (k := k) (Q := Q)
    (S := M.view.set) (f := f) (Memref.setOn_access_subset M r Finset.univ)
  rw [hv] at h
  exact h

theorem step_copy {sp sp' : Space} {s : Shape} {e : EltTy} {src : Memref sig .tc sp s e} {dst : Memref sig .tc sp' s e} {sem : SemLoc sig}
    {hsrc : src.view.WordExact} {hdst : dst.view.WordExact} {hsem : DmaTarget.Typed (nD := nD) (p := (Proc.tc : Proc τ)) sp sem (.here dst)}
    {k : PUnit → Prog (TpuEff nD τ sig (Elt F) Λ₀ .tc) α}
    {fs : Buf (Elt F) (src.view.loc (c : Thread nD τ))} {fd : Buf (Elt F) (dst.view.loc (c : Thread nD τ))}
    (n : DmaSem sig) (hs : sem = .dma n) (ht : IsTalk (.dma n) = true) (hN : dst.view.dmaCredit = dmaAmt n)
    (hpay : iprop(part dst c fullShare (dst.view.write (Elt F) fd (src.view.read (Elt F) fs) Finset.univ) ∗ part src c fullShare fs) ⊢ dmaPay m c n) :
    iprop(ready m K c n ∗ part src c fullShare fs ∗ part dst c fullShare fd)
      ⊢ iprop((flying m K c n -∗ run c (k ⟨⟩) Q) -∗ run c (.op (.enqueueDma src (.here dst) sem hsrc hdst hsem) k) Q) := by
  subst hs
  unfold run ready flying part at *
  iintro ⟨⟨#HI, Ht, Ha, #Hr⟩, Hs, Hd⟩ Hk
  iapply (Rounds.wp_copy_pointsTo 𝒱₀ ER (sched m) (c : Thread nD τ) none (src := src) (dst := dst) (sem := .dma n) (q := fullShare)
      (fs := fs) (fd := fd) (r := 0) (d := ()) (κ := K (dcell c n))
      (by rw [duties_talk m c _ ht]; exact Finset.mem_singleton_self _) () (dmaAmt n) hN rfl hpay) $$ [Hs Hd Ht]
  · isplitr; · iexact HI
    isplitl [Hs]; · iexact Hs
    isplitl [Hd]; · iexact Hd
    isplitl [Ht]; · iexact Ht
    iexact Hr
  iintro Hc
  iapply Hk
  isplitr; · iexact HI
  isplitl [Hc]; · iexact Hc
  iexact Ha

theorem step_send {sp sp' : Space} {s : Shape} {e : EltTy} {src : Memref sig .tc sp s e} {dst : Memref sig .tc sp' s e}
    {hsc : dst.view.ref.isScScratch = false} {sS sem : SemLoc sig} {d : Dev nD}
    {hsrc : src.view.WordExact} {hdst : dst.view.WordExact} {hsem : DmaTarget.Typed (p := (Proc.tc : Proc τ)) sp sem (.remote (Dev.tc d : Thread nD τ) dst sS hsc)}
    {k : PUnit → Prog (TpuEff nD τ sig (Elt F) Λ₀ .tc) α} {q : PosShare TreeShare}
    {fs : Buf (Elt F) (src.view.loc (c : Thread nD τ))} {fd : Buf (Elt F) (dst.view.loc (pr c : Thread nD τ))}
    (hd : d = pr c) (n n' : DmaSem sig) (hs : sS = .dma n) (hs' : sem = .dma n') (ht : IsTalk (.dma n) = true) (ht' : IsTalk (.dma n') = true)
    (hN : dst.view.dmaCredit = dmaAmt n) (hN' : dst.view.dmaCredit = dmaAmt n')
    {O₀ : CellTallies nD τ sig Unit} (O : CellTallies nD τ sig Unit) (hO : O₀ = O + tallyAt (dcell (pr c) n') () (dmaAmt n'))
    (hpay : part src c q fs ⊢ dmaPay m c n)
    (hpay' : part dst (pr c) fullShare (dst.view.write (Elt F) fd (src.view.read (Elt F) fs) Finset.univ) ⊢ dmaPay m (pr c) n') :
    iprop(ready m K c n ∗ outgoing m K (pr c) n' ∗ reached ER (dcell (pr c) n') 0 ∗ part src c q fs ∗ part dst (pr c) fullShare fd ∗ owe c O₀)
      ⊢ iprop(((flying m K c n ∗ owe c O) -∗ run c (k ⟨⟩) Q)
          -∗ run c (.op (.enqueueDma src (.remote (Dev.tc d : Thread nD τ) dst sS hsc) sem hsrc hdst hsem) k) Q) := by
  subst hs hs' hd
  have hNN : dmaAmt n' = dmaAmt n := hN'.symm.trans hN
  rw [hNN] at hO
  unfold run ready flying outgoing owe part at *
  iintro ⟨⟨#HI, Ht, Ha, #Hr⟩, ⟨#HI', Ht'⟩, #Hr', Hs, Hd, ⟨%W, HO⟩⟩ Hk
  iapply (Rounds.wp_send_pointsTo 𝒱₀ ER (sched m) (c : Thread nD τ) none (c' := (pr c : Thread nD τ)) (src := src) (dst := dst)
      (sS := .dma n) (sem := .dma n') (q := q) (fs := fs) (κ₁ := K (dcell c n)) (κ₂ := K (dcell (pr c) n'))
      (r₁ := 0) (r₂ := 0) (d₁ := ()) (d₂ := ()) (fd := fd)
      (by rw [duties_talk m c _ ht]; exact Finset.mem_singleton_self _) (by rw [duties_talk m (pr c) _ ht']; exact Finset.mem_singleton_self _)
      () () (dmaAmt n) hN rfl hNN O hO (W := W) hpay hpay') $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc Ha]
  · isplitr; · iexact HI
    isplitl [Hc]; · iexact Hc
    iexact Ha
  iexists W; iexact HO

theorem step_wait {sp sp' : Space} {s s' : Shape} {e e' : EltTy} {sem : DmaSem sig} {src : Memref sig .tc sp' s' e'} {dst : Memref sig .tc sp s e}
    {hsrc : src.view.WordExact} {hdst : dst.view.WordExact} {k : PUnit → Prog (TpuEff nD τ sig (Elt F) Λ₀ .tc) α}
    (n : DmaSem sig) (hs : sem = n) (ht : IsTalk (.dma n) = true) (hN : dst.view.dmaCredit = dmaAmt n)
    {O : CellTallies nD τ sig Unit} (hO : Above (lvl (.dma n)) O) :
    iprop(flying m K c n ∗ levAts L lv ∗ owe c O)
      ⊢ iprop(((spent c (.dma n) ∗ owe c O ∗ dmaPay m c n) -∗ run c (k ⟨⟩) Q)
          -∗ run c (.op (.waitDma2 sem src dst hsrc hdst) k) Q) := by
  subst hs
  unfold run flying owe spent
  iintro ⟨⟨#HI, Hc, Ha⟩, #Hlev, ⟨%W, HO⟩⟩ Hk
  iapply (Rounds.wp_wait_rest_token 𝒱₀ ER (sched m) (c : Thread nD τ) none (κ := K (dcell c sem))
      (wpE_waitDma2_eq (src := src) (dst := dst) 𝒱₀ (c : Thread nD τ) none Set.univ) (Set.mem_univ _) () (O := O) (W := W) (R := 0) (m := 0) (T := ∅)
      ((Nat.zero_add _).trans (hN.trans (expect_dma m c sem ht).symm))) $$ [Hc HO Ha]
  · isplitr; · iexact HI
    isplitl [Hc]; · rw [hN]; iexact Hc
    isplitl [HO]; · iexact HO
    isplitr; · iapply (mayWait c (.dma sem) hO); iexact Hlev
    iexact Ha
  iintro ⟨HO, Ha, -, Hpay⟩
  imod (Rounds.cell_close ER (sched m) (Set.mem_univ (K (dcell c sem))) id (duties_later m (dcell c sem))) $$ [Ha] with Hz
  · isplitr; · iexact HI
    iexact Ha
  iapply Hk
  isplitl [Hz]; · iexact Hz
  isplitl [HO]; · iexists _; iexact HO
  rw [← rest_dma m c sem ht]; iexact Hpay

theorem step_signal {b : Sem sig} {d : Dev nD} {sem : Sem sig} {k' : ℕ} {k : PUnit → Prog (TpuEff nD τ sig (Elt F) Λ₀ .tc) α}
    (hd : d = pr c) (hs : sem = b) (hk : k' = 1)
    {O₀ : CellTallies nD τ sig Unit} (O : CellTallies nD τ sig Unit) (hO : O₀ = O + tallyAt (bcell (pr c) b) () 1) :
    iprop(barOut m K (pr c) b ∗ (sched m).payload (bcell (pr c) b) 0 () ∗ owe c O₀)
      ⊢ iprop((owe c O -∗ run c (k ⟨⟩) Q) -∗ run c (.op (.semSignal (Dev.tc d : Thread nD τ) sem k') k) Q) := by
  subst hd hs hk
  unfold run barOut owe
  iintro ⟨⟨#HI, Ht, #Hr⟩, Hpay, ⟨%W, HO⟩⟩ Hk
  iapply (Rounds.wp_signal 𝒱₀ ER (sched m) (c : Thread nD τ) none (dst := (pr c : Thread nD τ)) (sem := sem) (r := 0) (d := ())
      (κ := K (bcell (pr c) sem))
      (by rw [duties_talk m (pr c) _ rfl]; exact Finset.mem_singleton_self _) rfl () O hO) $$ [HO Ht Hpay]
  · isplitr; · iexact HI
    isplitl [HO]; · iexact HO
    isplitl [Ht]; · iexact Ht
    isplitl [Hpay]; · iexact Hpay
    iexact Hr
  iintro HO
  iapply Hk
  iexists W; iexact HO

theorem step_barrier {b : Sem sig} {sem : Sem sig} {k' : ℕ} {k : PUnit → Prog (TpuEff nD τ sig (Elt F) Λ₀ .tc) α}
    (hs : sem = b) (hk : k' = 1) {O : CellTallies nD τ sig Unit} (hO : Above (lvl (.reg b)) O) {P : sProp 𝕄}
    (hP : bigSep ((sched (F := F) m).duties (bcell c b) 0 \ ∅) (fun u => (sched (F := F) m).payload (bcell c b) 0 u) = P) :
    iprop(barOwn m K c b ∗ levAts L lv ∗ owe c O)
      ⊢ iprop(((spent c (.reg b) ∗ owe c O ∗ P) -∗ run c (k ⟨⟩) Q) -∗ run c (.op (.semWait sem k') k) Q) := by
  subst hs hk hP
  unfold run barOwn owe spent
  iintro ⟨⟨#HI, Hc, Ha⟩, #Hlev, ⟨%W, HO⟩⟩ Hk
  iapply (Rounds.wp_wait_rest_token 𝒱₀ ER (sched m) (c : Thread nD τ) none (κ := K (bcell c sem))
      (wpE_semWait_eq 𝒱₀ (c : Thread nD τ) none Set.univ) (Set.mem_univ _) () (O := O) (W := W) (R := 0) (m := 0) (T := ∅)
      ((Nat.zero_add 1).trans (expect_bar m c sem).symm)) $$ [Hc HO Ha]
  · isplitr; · iexact HI
    isplitl [Hc]; · iexact Hc
    isplitl [HO]; · iexact HO
    isplitr; · iapply (mayWait c (.reg sem) hO); iexact Hlev
    iexact Ha
  iintro ⟨HO, Ha, -, Hpay⟩
  imod (Rounds.cell_close ER (sched m) (Set.mem_univ (K (bcell c sem))) id (duties_later m (bcell c sem))) $$ [Ha] with Hz
  · isplitr; · iexact HI
    iexact Ha
  iapply Hk
  isplitl [Hz]; · iexact Hz
  isplitl [HO]; · iexists _; iexact HO
  iexact Hpay

theorem run_eq (p : Prog (TpuEff nD τ sig (Elt F) Λ₀ .tc) α) :
    run c p Q = wp frame (wpE (defs₀ (F := F)) 𝒱₀ (c : Thread nD τ) none) Set.univ p Q := rfl

/-- Reading the device's own number. -/
theorem run_deviceId {k : Dev nD → Prog (TpuEff nD τ sig (Elt F) Λ₀ .tc) α} : run c (.op .deviceId k) Q = run c (k c) Q :=
  wp_deviceId ..

/-- A program that ends. -/
theorem run_ret {a : α} : Q a ⊢ run c (.ret a) Q := by
  show Q a ⊢ iprop(|={Set.univ}=> Q a)
  iintro HQ
  imodintro
  iexact HQ

attribute [irreducible] run

end Cert.Proof.Mla

end
-- ==== Proof.Views.lean ====
/- Buffers held in parts: splitting a buffer into blocks of rows or columns and joining it again, and what loads,
   stores and copies through a block read and leave. -/
module

public import proofs.«01_k».proof.Proof.Steps

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers and blocks -/

variable (c : Dev nD) (q : PosShare TreeShare)

/-- A block of a buffer, as a memref. -/
abbrev blk (b : Ref sig .tc) (r : Rect b.ty.shape) (h : ∀ a, r.stride a = 1 := by intro _; rfl) := (Memref.whole b).slice r h

theorem part_whole (b : Ref sig .tc) (f : b.ty.Contents (Elt F)) :
    (part (Memref.whole b) c q f : sProp 𝕄) = ((c : Thread nD τ).loc b ↦{q} f) := by
  unfold part
  show (((c : Thread nD τ).loc b ↦[(View.whole b).set]{q} f : sProp 𝕄)) = _
  rw [View.set_whole]

theorem part_blk (b : Ref sig .tc) (r : Rect b.ty.shape) (h) (f : b.ty.Contents (Elt F)) :
    (part (blk b r h) c q f : sProp 𝕄) = ((c : Thread nD τ).loc b ↦[r.set]{q} f) := by
  unfold part
  show (((c : Thread nD τ).loc b ↦[((View.whole b).slice r).set]{q} f : sProp 𝕄)) = _
  rw [View.set_slice_whole]

theorem part_blk_congr (b : Ref sig .tc) (r : Rect b.ty.shape) (h) (f g : b.ty.Contents (Elt F)) (hfg : ∀ i, f (r.emb i) = g (r.emb i)) :
    (part (blk b r h) c q f : sProp 𝕄) = part (blk b r h) c q g := by
  rw [part_blk, part_blk]
  refine pointsTo_congr fun i hi => ?_
  rw [← Rect.map_emb_univ] at hi
  obtain ⟨j, -, rfl⟩ := Finset.mem_map.mp hi
  exact hfg j

/-- A buffer is one of its blocks and the rest. -/
theorem part_rest (b : Ref sig .tc) (r : Rect b.ty.shape) (h) (f : b.ty.Contents (Elt F)) :
    (part (Memref.whole b) c q f : sProp 𝕄) ⊣⊢ iprop(part (blk b r h) c q f ∗ ((c : Thread nD τ).loc b ↦[Finset.univ \ r.set]{q} f)) := by
  rw [part_whole, part_blk]
  exact pointsTo_split_subset (Finset.subset_univ _)

/-- A buffer is its two halves. -/
theorem part_two (b : Ref sig .tc) (r₁ r₂ : Rect b.ty.shape) (h₁) (h₂) (hd : Disjoint r₁.set r₂.set) (hu : r₁.set ∪ r₂.set = Finset.univ)
    (f : b.ty.Contents (Elt F)) :
    (part (Memref.whole b) c q f : sProp 𝕄) ⊣⊢ iprop(part (blk b r₁ h₁) c q f ∗ part (blk b r₂ h₂) c q f) := by
  rw [part_whole, part_blk, part_blk, ← hu]
  exact pointsTo_union hd

/-- A share is its two halves. -/
theorem part_share {sp : Space} {s : Shape} {e : EltTy} (M : Memref sig .tc sp s e) (f : Buf (Elt F) (M.view.loc (c : Thread nD τ))) :
    (part M c fullShare f : sProp 𝕄) ⊣⊢ iprop(part M c fullShare.left f ∗ part M c fullShare.right f) := by
  unfold part
  exact pointsTo_share (PosShare.mem_left_op_right fullShare)

/-! ## What is read and written -/

theorem cut_all {s : Shape} {α : Type} (off : Fin s.rank → ℕ) (h0 : ∀ a, off a = 0) (inb : ∀ a, off a + s.size a ≤ s.size a) (f : s.Idx → α) :
    cut (Rect.unit off s.size inb) f = f := by
  funext i
  unfold cut
  congr 1
  funext a
  apply Fin.ext
  rw [Rect.emb_apply]
  show off a + 1 * (i a).val = (i a).val
  rw [h0]; omega

/-- Storing all of a buffer leaves what was stored. -/
theorem write_all (b : Ref sig .tc) (off : Fin b.ty.shape.rank → ℕ) (h0 : ∀ a, off a = 0) {inb : ∀ a, off a + b.ty.shape.size a ≤ b.ty.shape.size a}
    (f w : b.ty.Contents (Elt F)) :
    ((Memref.whole b).access (Rect.unit off b.ty.shape.size inb)).write (Elt F) f w Finset.univ = w := by
  funext i
  have e : ((View.whole b).slice (Rect.unit off b.ty.shape.size inb)).emb i = i := by
    rw [View.emb_slice]
    funext a
    apply Fin.ext
    show ((Rect.unit off b.ty.shape.size inb).emb i a).val = (i a).val
    rw [Rect.emb_apply]
    show off a + 1 * (i a).val = (i a).val
    rw [h0]; omega
  have := View.write_emb_of_mem (Val := Elt F) (v := (View.whole b).slice (Rect.unit off b.ty.shape.size inb)) f w (Finset.mem_univ i)
  rw [e] at this
  exact this

theorem readAt_cut (b : Ref sig .tc) (r : Rect b.ty.shape) (f : b.ty.Contents (Elt F)) :
    (Memref.whole b).view.readAt (Elt F) r.toLoadRect f = cut r f := rfl

/-- Loading all of a buffer reads what it holds. -/
theorem readAt_all (b : Ref sig .tc) (off : Fin b.ty.shape.rank → ℕ) (h0 : ∀ a, off a = 0) {inb : ∀ a, off a + b.ty.shape.size a ≤ b.ty.shape.size a}
    (f : b.ty.Contents (Elt F)) : (Memref.whole b).view.readAt (Elt F) (Rect.unit off b.ty.shape.size inb).toLoadRect f = f :=
  (readAt_cut b _ f).trans (cut_all off h0 inb f)

/-- Filling a block from a source: the block then holds any array that agrees with the source there. -/
theorem part_filled (b : Ref sig .tc) (r : Rect b.ty.shape) (h) (f g : b.ty.Contents (Elt F)) (w : r.shape.Idx → Elt F b.ty.elt)
    (hg : ∀ i, g (r.emb i) = w i) :
    (part (blk b r h) c q ((blk b r h).view.write (Elt F) f w Finset.univ) : sProp 𝕄) = part (blk b r h) c q g := by
  refine part_blk_congr c q b r h _ _ fun i => ?_
  rw [hg]
  exact View.write_emb_of_mem (Val := Elt F) (v := (View.whole b).slice r) f w (Finset.mem_univ i)

/-- Filling all of a buffer. -/
theorem part_filled_all (b : Ref sig .tc) (f w : b.ty.Contents (Elt F)) :
    (part (Memref.whole b) c q ((Memref.whole b).view.write (Elt F) f w Finset.univ) : sProp 𝕄) = part (Memref.whole b) c q w :=
  congrArg _ (View.write_whole_univ b f w)

variable {α : Type} {Q : α → sProp (MT nD τ sig Unit (Elt F) ℕ UU ℕ)}

/-- Loading a block of a buffer of which only the block is held. -/
theorem step_load_blk {cs : CoreSpace} {s : Shape} {e : EltTy} {M : Memref sig .tc cs s e} (r : Rect s) (h : ∀ a, r.stride a = 1)
    {hl : M.view.LoadsAt r.toLoadRect} {k : (r.shape.Idx → Elt F e) → Prog (TpuEff nD τ sig (Elt F) Λ₀ .tc) α} {q : PosShare TreeShare}
    {f : Buf (Elt F) (M.view.loc (c : Thread nD τ))} (v : r.shape.Idx → Elt F e) (hv : M.view.readAt (Elt F) r.toLoadRect f = v) :
    part (M.slice r h) c q f ⊢ iprop((part (M.slice r h) c q f -∗ run c (k v) Q) -∗ run c (.op (.load M r.toLoadRect hl) k) Q) := by
  subst hv
  unfold run
  exact wp_load (defs := defs₀ (F := F)) (U := UU) (Name := ℕ) (Ix := Unit) (Lvl := ℕ) 𝒱₀ (c : Thread nD τ) none (Γ := []) Set.univ (m := M)
    (hl := hl) (S := (M.view.slice r).set) (View.set_slice M.view r).ge

/-- Storing a block of a buffer of which only the block is held. -/
theorem step_store_blk {cs : CoreSpace} {s : Shape} {e : EltTy} {M : Memref sig .tc cs s e} (r : Rect s) (h : ∀ a, r.stride a = 1)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α}
    {f : Buf (Elt F) (M.view.loc (c : Thread nD τ))} :
    part (M.slice r h) c fullShare f
      ⊢ iprop((part (M.slice r h) c fullShare ((M.slice r h).view.write (Elt F) f w Finset.univ) -∗ run c (k ⟨⟩) Q)
          -∗ run c (.op (.store M r w Finset.univ hx hm) k) Q) := by
  unfold run
  exact wp_store (defs := defs₀ (F := F)) (U := UU) (Name := ℕ) (Ix := Unit) (Lvl := ℕ) 𝒱₀ (c : Thread nD τ) none (Γ := []) Set.univ
    (m := M) (r := r) (w := w) (Mk := Finset.univ) (hx := hx) (hm := hm) (k := k) (Q := Q) (S := (M.view.slice r).set) (f := f)
    ((M.access r).setOn_subset_set _)

end Cert.Proof.Mla

end
-- ==== Proof.Body0.lean ====
/- The first call's body: the latent and the factors are exchanged with the partner while the queries and the rotary
   keys are computed; then the keys and values of the device's own heads. -/
module

public import proofs.«01_k».proof.Proof.Views

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- The first call's body as it is called. -/
abbrev body0 : Prog (TpuEff nD τ sig (Elt F) Λ₀ .tc) PUnit :=
  cc0_body_a (Memref.whole main_v1) (Memref.isWhole_whole _) (Memref.whole cc0_stg0_0) (Memref.isWhole_whole _) (Memref.whole cc0_stg1_0)
    (Memref.isWhole_whole _) (Memref.whole cc0_stg2_0) (Memref.isWhole_whole _) (Memref.whole main_arg5) (Memref.isWhole_whole _)
    (Memref.whole main_arg6) (Memref.isWhole_whole _) (Memref.whole main_arg4) (Memref.isWhole_whole _) (Memref.whole cc0_stg3_0)
    (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    cc0_scratch10 cc0_scratch11 cc0_scratch12

/-! ## What the transfers leave -/

section Filled
variable (c : Dev nD)

theorem x_disjoint : Disjoint xTop.set xBot.set := by
  rw [Finset.disjoint_left]
  intro i h1 h2
  have a := (Rect.mem_set_unit.mp h1) 0
  have b := (Rect.mem_set_unit.mp h2) 0
  have a' : (i 0).val < 0 + 512 := a.2
  have b' : 512 ≤ (i 0).val := b.1
  omega
theorem x_cover : xTop.set ∪ xBot.set = Finset.univ := by
  ext i
  refine ⟨fun _ => Finset.mem_univ _, fun _ => Finset.mem_union.mpr ?_⟩
  have h0 : (i 0).val < 1024 := (i 0).isLt
  have h1 : (i 1).val < 2048 := (i 1).isLt
  by_cases h : (i 0).val < 512
  · left
    refine Rect.mem_set_unit.mpr fun a => ?_
    match a with
    | ⟨0, _⟩ => exact ⟨Nat.zero_le _, by show (i 0).val < 0 + 512; omega⟩
    | ⟨1, _⟩ => exact ⟨Nat.zero_le _, by show (i 1).val < 0 + 2048; omega⟩
  · right
    refine Rect.mem_set_unit.mpr fun a => ?_
    match a with
    | ⟨0, _⟩ => exact ⟨by show 512 ≤ (i 0).val; omega, by show (i 0).val < 512 + 512; omega⟩
    | ⟨1, _⟩ => exact ⟨Nat.zero_le _, by show (i 1).val < 0 + 2048; omega⟩

/-- The two stores of the latent's halves leave the latent. -/
theorem lat_stored (f : (cc0_scratch0 : Ref sig .tc).ty.Contents (Elt F)) :
    (latM.access (Rect.unit (s := S1024x128) ![512, 0] S512x128.size inb_S1024x128_S512x128_512_0)).write (Elt F)
      ((latM.access (Rect.unit (s := S1024x128) ![0, 0] S512x128.size inb_S1024x128_S512x128_0_0)).write (Elt F) f (latTop m c) Finset.univ)
      (latBot m c) Finset.univ = lat m c := by
  refine (View.write_whole_slice_unit _ _ _ _ _ _).trans ?_
  rw [show (latM.access (Rect.unit (s := S1024x128) ![0, 0] S512x128.size inb_S1024x128_S512x128_0_0)).write (Elt F) f (latTop m c) Finset.univ
    = _ from View.write_whole_slice_unit _ _ _ _ _ _]
  funext i
  have h0 : (i 0).val < 1024 := (i 0).isLt
  have h1 : (i 1).val < 128 := (i 1).isLt
  unfold updateSlice lat
  by_cases h : (i 0).val < 512
  · rw [dif_neg (fun hh => by have := (hh 0).1; change 512 ≤ (i 0).val at this; omega), dif_pos h, dif_pos (fun a => ?_)]
    · congr 1
      funext a
      match a with
      | ⟨0, _⟩ => rfl
      | ⟨1, _⟩ => rfl
    · match a with
      | ⟨0, _⟩ => exact ⟨Nat.zero_le _, by show (i 0).val < 0 + 512; omega⟩
      | ⟨1, _⟩ => exact ⟨Nat.zero_le _, by show (i 1).val < 0 + 128; omega⟩
  · rw [dif_pos (fun a => ?_), dif_neg h]
    · congr 1
      funext a
      match a with
      | ⟨0, _⟩ => rfl
      | ⟨1, _⟩ => rfl
    · match a with
      | ⟨0, _⟩ => exact ⟨by show 512 ≤ (i 0).val; omega, by show (i 0).val < 512 + 512; omega⟩
      | ⟨1, _⟩ => exact ⟨Nat.zero_le _, by show (i 1).val < 0 + 128; omega⟩

/-- What each cell of the first call is handed. -/
theorem filled8 (f : (cc0_scratch6 : Ref sig .tc).ty.Contents (Elt F)) :
    iprop(part wqvM c fullShare (wqvM.view.write (Elt F) f ((wqM.slice (wqCols c) (fun _ => rfl)).view.read (Elt F) (wqA m c)) Finset.univ)
      ∗ part (wqM.slice (wqCols c) (fun _ => rfl)) c fullShare (wqA m c)) ⊢ dmaPay m c 8 :=
  sep_mono_left (Entails.of_eq (part_filled_all c fullShare cc0_scratch6 f (cut (wqCols c) (wqA m c))))
theorem filled9 (f : (cc0_scratch7 : Ref sig .tc).ty.Contents (Elt F)) :
    iprop(part wqrvM c fullShare (wqrvM.view.write (Elt F) f ((wqrM.slice (wqrCols c) (fun _ => rfl)).view.read (Elt F) (wqrA m c)) Finset.univ)
      ∗ part (wqrM.slice (wqrCols c) (fun _ => rfl)) c fullShare (wqrA m c)) ⊢ dmaPay m c 9 :=
  sep_mono_left (Entails.of_eq (part_filled_all c fullShare cc0_scratch7 f (cut (wqrCols c) (wqrA m c))))
theorem filled10 (f : (cc0_scratch8 : Ref sig .tc).ty.Contents (Elt F)) :
    iprop(part (xvM.slice xTop (fun _ => rfl)) c fullShare
        ((xvM.slice xTop (fun _ => rfl)).view.write (Elt F) f ((xM.slice xTop (fun _ => rfl)).view.read (Elt F) (xA m c)) Finset.univ)
      ∗ part (xM.slice xTop (fun _ => rfl)) c fullShare (xA m c)) ⊢ dmaPay m c 10 :=
  sep_mono_left (Entails.of_eq (part_filled c fullShare cc0_scratch8 xTop (fun _ => rfl) f (xA m c) (cut xTop (xA m c)) (fun _ => rfl)))
theorem filled11 (f : (cc0_scratch8 : Ref sig .tc).ty.Contents (Elt F)) :
    iprop(part (xvM.slice xBot (fun _ => rfl)) c fullShare
        ((xvM.slice xBot (fun _ => rfl)).view.write (Elt F) f ((xM.slice xBot (fun _ => rfl)).view.read (Elt F) (xA m c)) Finset.univ)
      ∗ part (xM.slice xBot (fun _ => rfl)) c fullShare (xA m c)) ⊢ dmaPay m c 11 :=
  sep_mono_left (Entails.of_eq (part_filled c fullShare cc0_scratch8 xBot (fun _ => rfl) f (xA m c) (cut xBot (xA m c)) (fun _ => rfl)))
theorem filled12 (f : (cc0_scratch9 : Ref sig .tc).ty.Contents (Elt F)) :
    iprop(part wkrvM c fullShare (wkrvM.view.write (Elt F) f (wkrM.view.read (Elt F) (wkrA m c)) Finset.univ)
      ∗ part wkrM c fullShare (wkrA m c)) ⊢ dmaPay m c 12 :=
  sep_mono_left (Entails.of_eq (part_filled_all c fullShare cc0_scratch9 f (wkrA m c)))
theorem filled16 (f : (cc0_scratch3 : Ref sig .tc).ty.Contents (Elt F)) :
    part wukRxM (pr c) fullShare (wukRxM.view.write (Elt F) f (wukM.view.read (Elt F) (wukB m c)) Finset.univ) ⊢ dmaPay m (pr c) 16 := by
  show _ ⊢ part wukRxM (pr c) fullShare (wukB m (pr (pr c)))
  rw [pr_pr]
  exact Entails.of_eq (part_filled_all (pr c) fullShare cc0_scratch3 f (wukB m c))
theorem filled17 (f : (cc0_scratch5 : Ref sig .tc).ty.Contents (Elt F)) :
    part wuvRxM (pr c) fullShare (wuvRxM.view.write (Elt F) f (wuvM.view.read (Elt F) (wuvB m c)) Finset.univ) ⊢ dmaPay m (pr c) 17 := by
  show _ ⊢ part wuvRxM (pr c) fullShare (wuvB m (pr (pr c)))
  rw [pr_pr]
  exact Entails.of_eq (part_filled_all (pr c) fullShare cc0_scratch5 f (wuvB m c))
theorem filled18 (f : (cc0_scratch1 : Ref sig .tc).ty.Contents (Elt F)) :
    part latRxM (pr c) fullShare (latRxM.view.write (Elt F) f (latM.view.read (Elt F) (lat m c)) Finset.univ) ⊢ dmaPay m (pr c) 18 := by
  show _ ⊢ part latRxM (pr c) fullShare (lat m (pr (pr c)))
  rw [pr_pr]
  exact Entails.of_eq (part_filled_all (pr c) fullShare cc0_scratch1 f (lat m c))

end Filled

/-! ## What each transfer counts -/

theorem amt8 : wqvM.view.dmaCredit = dmaAmt 8 := by rw [dmaAmt, if_pos (by decide)]
theorem amt9 : wqrvM.view.dmaCredit = dmaAmt 9 := by rw [dmaAmt, if_neg (by decide), if_pos (by decide)]
theorem amt12 : wkrvM.view.dmaCredit = dmaAmt 12 := by
  rw [dmaAmt, if_neg (by decide), if_neg (by decide), if_neg (by decide), if_pos (by decide)]

/-! ## What the cells hand over, in the order they are waited for -/

section Paid
variable (c : Dev nD)

theorem pay8 : (dmaPay m c 8 : sProp 𝕄)
    = iprop(part wqvM c fullShare (cut (wqCols c) (wqA m c)) ∗ part (wqM.slice (wqCols c) (fun _ => rfl)) c fullShare (wqA m c)) := rfl
theorem pay9 : (dmaPay m c 9 : sProp 𝕄)
    = iprop(part wqrvM c fullShare (cut (wqrCols c) (wqrA m c)) ∗ part (wqrM.slice (wqrCols c) (fun _ => rfl)) c fullShare (wqrA m c)) := rfl
theorem pay10 : (dmaPay m c 10 : sProp 𝕄)
    = iprop(part (xvM.slice xTop (fun _ => rfl)) c fullShare (xA m c) ∗ part (xM.slice xTop (fun _ => rfl)) c fullShare (xA m c)) := rfl
theorem pay11 : (dmaPay m c 11 : sProp 𝕄)
    = iprop(part (xvM.slice xBot (fun _ => rfl)) c fullShare (xA m c) ∗ part (xM.slice xBot (fun _ => rfl)) c fullShare (xA m c)) := rfl
theorem pay12 : (dmaPay m c 12 : sProp 𝕄) = iprop(part wkrvM c fullShare (wkrA m c) ∗ part wkrM c fullShare (wkrA m c)) := rfl
theorem pay13 : (dmaPay m c 13 : sProp 𝕄) = part wukM c fullShare (wukB m c) := rfl
theorem pay14 : (dmaPay m c 14 : sProp 𝕄) = part wuvM c fullShare (wuvB m c) := rfl
theorem pay15 : (dmaPay m c 15 : sProp 𝕄) = part latM c fullShare (lat m c) := rfl
theorem pay16 : (dmaPay m c 16 : sProp 𝕄) = part wukRxM c fullShare (wukB m (pr c)) := rfl
theorem pay17 : (dmaPay m c 17 : sProp 𝕄) = part wuvRxM c fullShare (wuvB m (pr c)) := rfl
theorem pay18 : (dmaPay m c 18 : sProp 𝕄) = part latRxM c fullShare (lat m (pr c)) := rfl

/-- The barrier unit device `c` sends its partner carries `c`'s own receive buffers. -/
theorem pay_bar0 : (sched (F := F) m).payload (bcell (pr c) bar0) 0 ()
    = iprop((∃ f, part latRxM c fullShare f) ∗ (∃ f, part wukRxM c fullShare f) ∗ (∃ f, part wuvRxM c fullShare f)
      ∗ reached ER (dcell c 16) 0 ∗ reached ER (dcell c 17) 0 ∗ reached ER (dcell c 18) 0) := by
  show (if bar0 = bar0 then barPay0 (pr c) else barPay1 (pr c) : sProp 𝕄) = _
  rw [if_pos rfl, barPay0_eq, pr_pr]

/-- What the first call owes for one transfer. -/
abbrev due (n : DmaSem sig) : CellTallies nD τ sig Unit := tallyAt (dcell (pr c) n) () (dmaAmt n)

theorem above_call0 : Above (lvl (.reg bar0)) (due1 c + (due c 18 + due c 17 + due c 16)) :=
  ((above_due1 c).mono (by decide)).add (((Above.tally _ _ _ (by decide)).add (Above.tally _ _ _ (by decide))).add (Above.tally _ _ _ (by decide)))
theorem above_own : Above 0 (due1 c + due c 18) := ((above_due1 c).mono (by decide)).add (Above.tally _ _ _ (by decide))
theorem above_own' : Above 0 (due1 c) := (above_due1 c).mono (by decide)

end Paid

/-! ## The condition words -/

/-- The word the first condition tests: the device lies on the lower half of the mesh; -/
theorem low_word (c : Dev nD) : Scalar.cmpi CmpIPredicate.ne
    (Scalar.extui (Scalar.cmpi CmpIPredicate.eq (Scalar.remsi (Scalar.divsi c.word 16#32) 2#32) 0#32)) 0#32 = 1#1 ↔ c.val < 16 := by
  revert c; decide +kernel
/-- the second: on the upper half. -/
theorem high_word (c : Dev nD) : Scalar.cmpi CmpIPredicate.ne
    (Scalar.extui (Scalar.cmpi CmpIPredicate.eq (Scalar.remsi (Scalar.divsi c.word 16#32) 2#32) 1#32)) 0#32 = 1#1 ↔ 16 ≤ c.val := by
  revert c; decide +kernel

theorem keys_low (c : Dev nD) (h : c.val < 16) :
    keys m c = k0_pay1 (lat m c) (cut wLeft (wukB m c)) (lat m (pr c)) (cut wLeft (wukB m (pr c))) := if_pos h
theorem keys_high (c : Dev nD) (h : ¬ c.val < 16) :
    keys m c = k0_pay3 (lat m c) (cut wRight (wukB m c)) (lat m (pr c)) (cut wRight (wukB m (pr c))) := if_neg h
theorem vals_low (c : Dev nD) (h : c.val < 16) :
    vals m c = k0_pay2 (lat m c) (cut wLeft (wuvB m c)) (lat m (pr c)) (cut wLeft (wuvB m (pr c))) := if_pos h
theorem vals_high (c : Dev nD) (h : ¬ c.val < 16) :
    vals m c = k0_pay4 (lat m c) (cut wRight (wuvB m c)) (lat m (pr c)) (cut wRight (wuvB m (pr c))) := if_neg h

/-! ## What the body takes and leaves -/

/-- A buffer at contents not named. -/
def scr (c : Dev nD) (b : Ref sig .tc) : sProp 𝕄 := iprop(∃ f, part (Memref.whole b) c fullShare f)
/-- A cell of device `c` that its partner fills. -/
def incoming (c : Dev nD) (n : DmaSem sig) : sProp 𝕄 := iprop(flying m K c n ∗ reached ER (dcell c n) 0)

/-- The first call's cells before it runs, as the device holds them. -/
def cells0 (c : Dev nD) : sProp 𝕄 :=
  iprop(barOut m K (pr c) bar0 ∗ barOwn m K c bar0
    ∗ ready m K c 8 ∗ ready m K c 9 ∗ ready m K c 10 ∗ ready m K c 11 ∗ ready m K c 12
    ∗ ready m K c 13 ∗ ready m K c 14 ∗ ready m K c 15
    ∗ incoming m K c 16 ∗ incoming m K c 17 ∗ incoming m K c 18
    ∗ outgoing m K (pr c) 16 ∗ outgoing m K (pr c) 17 ∗ outgoing m K (pr c) 18)
/-- and after it has run. -/
def spent0 (c : Dev nD) : sProp 𝕄 :=
  iprop(spent c (.reg bar0) ∗ spent c (.dma 8) ∗ spent c (.dma 9) ∗ spent c (.dma 10) ∗ spent c (.dma 11) ∗ spent c (.dma 12)
    ∗ spent c (.dma 13) ∗ spent c (.dma 14) ∗ spent c (.dma 15) ∗ spent c (.dma 16) ∗ spent c (.dma 17) ∗ spent c (.dma 18))
/-- The arrays the call reads where they are, its staged inputs, and its scratch. -/
def reads0 (c : Dev nD) : sProp 𝕄 :=
  iprop(part xM c fullShare (xA m c) ∗ part wqM c fullShare (wqA m c) ∗ part wqrM c fullShare (wqrA m c) ∗ part wkrM c fullShare (wkrA m c)
    ∗ part (Memref.whole cc0_stg0_0) c fullShare (wdkvA m c) ∗ part (Memref.whole cc0_stg1_0) c fullShare (wukA m c)
    ∗ part (Memref.whole cc0_stg2_0) c fullShare (wuvA m c))
def scratch0 (c : Dev nD) : sProp 𝕄 :=
  iprop(scr c cc0_scratch0 ∗ scr c cc0_scratch1 ∗ scr c cc0_scratch2 ∗ scr c cc0_scratch3 ∗ scr c cc0_scratch4 ∗ scr c cc0_scratch5
    ∗ scr c cc0_scratch6 ∗ scr c cc0_scratch7 ∗ scr c cc0_scratch8 ∗ scr c cc0_scratch9)

def pre0 (c : Dev nD) : sProp 𝕄 :=
  iprop(cells0 m K c ∗ levAts L lv ∗ owe c (due1 c + due0 c) ∗ reads0 m c ∗ scratch0 c
    ∗ scr c cc0_stg3_0 ∗ scr c cc0_stg4_0 ∗ scr c cc0_stg5_0 ∗ scr c cc0_stg6_0 ∗ scr c cc0_stg7_0)
/-- The staged outputs hold the keys, the values, the rotary queries, the rotary keys and the queries. -/
def post0 (c : Dev nD) : sProp 𝕄 :=
  iprop(spent0 c ∗ owe c (due1 c) ∗ reads0 m c ∗ scratch0 c
    ∗ part (Memref.whole cc0_stg3_0) c fullShare (keys m c) ∗ part (Memref.whole cc0_stg4_0) c fullShare (vals m c)
    ∗ part (Memref.whole cc0_stg5_0) c fullShare (ropeQueries m c) ∗ part (Memref.whole cc0_stg6_0) c fullShare (ropeKeys m c)
    ∗ part (Memref.whole cc0_stg7_0) c fullShare (queries m c))

set_option maxHeartbeats 4000000 in
theorem run0 (c : Dev nD) (Q : PUnit → sProp (MT nD τ sig Unit (Elt F) ℕ UU ℕ)) :
    iprop(pre0 m K c ∗ (post0 m c -∗ Q ⟨⟩)) ⊢ run c (body0 (F := F)) Q := by
  unfold body0
  simp only [cc0_body_a_eq_skeleton]
  unfold cc0_body_a_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, run_deviceId]
  unfold pre0 cells0 reads0 scratch0 scr incoming
  iintro ⟨⟨⟨Bo, Bi, R8, R9, R10, R11, R12, R13, R14, R15, ⟨R16, #r16⟩, ⟨R17, #r17⟩, ⟨R18, #r18⟩, O16, O17, O18⟩, #Hlev, HO,
    ⟨Hx, Hwq, Hwqr, Hwkr, Hdkv, Huk, Huv⟩,
    ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩,
    ⟨%g3, T3⟩, ⟨%g4, T4⟩, ⟨%g5, T5⟩, ⟨%g6, T6⟩, ⟨%g7, T7⟩⟩, Hk⟩
  -- the two halves of `x` start moving in
  ihave Hx2 := ((part_two c fullShare main_v1 xTop xBot (fun _ => rfl) (fun _ => rfl) x_disjoint x_cover (xA m c)).1) $$ Hx
  icases Hx2 with ⟨XT, XB⟩
  ihave Hv2 := ((part_two c fullShare cc0_scratch8 xTop xBot (fun _ => rfl) (fun _ => rfl) x_disjoint x_cover f8).1) $$ S8
  icases Hv2 with ⟨VT, VB⟩
  iapply (step_copy m K c (src := xM.slice xTop (fun _ => rfl)) (dst := xvM.slice xTop (fun _ => rfl)) (fs := xA m c) (fd := f8)
    10 rfl rfl rfl (filled10 m c f8)) $$ [R10 XT VT]
  · isplitl [R10]; · iexact R10
    isplitl [XT]; · iexact XT
    iexact VT
  iintro R10
  iapply (step_copy m K c (src := xM.slice xBot (fun _ => rfl)) (dst := xvM.slice xBot (fun _ => rfl)) (fs := xA m c) (fd := f8)
    11 rfl rfl rfl (filled11 m c f8)) $$ [R11 XB VB]
  · isplitl [R11]; · iexact R11
    isplitl [XB]; · iexact XB
    iexact VB
  iintro R11
  as_aux_lemma =>
    -- the barrier: the buffers received in go to the partner, and the partner's come
    iapply (step_signal m K c (b := bar0) (k0_dev1_pr c) rfl rfl (O₀ := due1 c + due0 c) (due1 c + (due c 18 + due c 17 + due c 16))
      (by unfold due0; exact (add_assoc _ _ _).symm)) $$ [Bo HO S1 S3 S5]
    · isplitl [Bo]; · iexact Bo
      isplitl [S1 S3 S5]
      · iapply (Entails.of_eq (pay_bar0 m c).symm)
        isplitl [S1]; · iexists f1; iexact S1
        isplitl [S3]; · iexists f3; iexact S3
        isplitl [S5]; · iexists f5; iexact S5
        isplitr; · iexact r16
        isplitr; · iexact r17
        iexact r18
      iexact HO
    iintro HO
    iapply (step_barrier m K c (b := bar0) rfl rfl (O := due1 c + (due c 18 + due c 17 + due c 16)) (above_call0 c) (rest_bar0 m c)) $$ [Bi HO]
    · isplitl [Bi]; · iexact Bi
      isplitr; · iexact Hlev
      iexact HO
    iintro ⟨Zb, HO, Hp⟩
    ihave Hp := (Entails.of_eq (barPay0_eq c)) $$ Hp
    icases Hp with ⟨⟨%p1, P1⟩, ⟨%p3, P3⟩, ⟨%p5, P5⟩, #q16, #q17, #q18⟩
    -- the narrow factors, sent
    iapply (step_load c (wukA m c) (readAt_all cc0_stg1_0 ![0, 0] (by decide) _)) $$ Huk
    iintro Huk
    iapply (step_load c f2 (readAt_all cc0_scratch2 ![0, 0] (by decide) _)) $$ S2
    iintro S2
    iapply (step_store c (wukB m c) (write_all cc0_scratch2 ![0, 0] (by decide) f2 _)) $$ S2
    iintro S2
    iapply (step_load c (wuvA m c) (readAt_all cc0_stg2_0 ![0, 0] (by decide) _)) $$ Huv
    iintro Huv
    iapply (step_load c f4 (readAt_all cc0_scratch4 ![0, 0] (by decide) _)) $$ S4
    iintro S4
    iapply (step_store c (wuvB m c) (write_all cc0_scratch4 ![0, 0] (by decide) f4 _)) $$ S4
    iintro S4
    iapply (step_send m K c (src := wukM) (dst := wukRxM) (q := fullShare) (fs := wukB m c) (fd := p3) (k0_dev2_pr c) 13 16 rfl rfl rfl rfl rfl rfl
      (O₀ := due1 c + (due c 18 + due c 17 + due c 16)) (due1 c + (due c 18 + due c 17)) (add_assoc _ _ _).symm
      (BI.Entails.refl _) (filled16 m c p3)) $$ [R13 O16 S2 P3 HO]
    · isplitl [R13]; · iexact R13
      isplitl [O16]; · iexact O16
      isplitr; · iexact q16
      isplitl [S2]; · iexact S2
      isplitl [P3]; · iexact P3
      iexact HO
    iintro ⟨R13, HO⟩
    iapply (step_send m K c (src := wuvM) (dst := wuvRxM) (q := fullShare) (fs := wuvB m c) (fd := p5) (k0_dev3_pr c) 14 17 rfl rfl rfl rfl rfl rfl
      (O₀ := due1 c + (due c 18 + due c 17)) (due1 c + due c 18) (add_assoc _ _ _).symm
      (BI.Entails.refl _) (filled17 m c p5)) $$ [R14 O17 S4 P5 HO]
    · isplitl [R14]; · iexact R14
      isplitl [O17]; · iexact O17
      isplitr; · iexact q17
      isplitl [S4]; · iexact S4
      isplitl [P5]; · iexact P5
      iexact HO
    iintro ⟨R14, HO⟩
    as_aux_lemma =>
      -- the query weights start moving in
      ihave Hq2 := ((part_rest c fullShare main_arg4 (wqCols c) (fun _ => rfl) (wqA m c)).1) $$ Hwq
      icases Hq2 with ⟨Hwq, Wq'⟩
      iapply (step_copy m K c (src := wqM.slice (wqCols c) (fun _ => rfl)) (dst := wqvM) (fs := wqA m c) (fd := f6)
        8 rfl rfl amt8 (filled8 m c f6)) $$ [R8 Hwq S6]
      · isplitl [R8]; · iexact R8
        isplitl [Hwq]; · iexact Hwq
        iexact S6
      iintro R8
      ihave Hq2 := ((part_rest c fullShare main_arg5 (wqrCols c) (fun _ => rfl) (wqrA m c)).1) $$ Hwqr
      icases Hq2 with ⟨Hwqr, Wqr'⟩
      iapply (step_copy m K c (src := wqrM.slice (wqrCols c) (fun _ => rfl)) (dst := wqrvM) (fs := wqrA m c) (fd := f7)
        9 rfl rfl amt9 (filled9 m c f7)) $$ [R9 Hwqr S7]
      · isplitl [R9]; · iexact R9
        isplitl [Hwqr]; · iexact Hwqr
        iexact S7
      iintro R9
      iapply (step_copy m K c (src := wkrM) (dst := wkrvM) (fs := wkrA m c) (fd := f9) 12 rfl rfl amt12 (filled12 m c f9)) $$ [R12 Hwkr S9]
      · isplitl [R12]; · iexact R12
        isplitl [Hwkr]; · iexact Hwkr
        iexact S9
      iintro R12
      as_aux_lemma =>
        -- the latent, half by half, sent
        iapply (step_wait m K c (src := xM.slice xTop (fun _ => rfl)) (dst := xvM.slice xTop (fun _ => rfl)) 10 rfl rfl rfl (O := due1 c + due c 18) (above_own c)) $$ [R10 HO]
        · isplitl [R10]; · iexact R10
          isplitr; · iexact Hlev
          iexact HO
        iintro ⟨Z10, HO, Hp⟩
        ihave Hp := (Entails.of_eq (pay10 m c)) $$ Hp
        icases Hp with ⟨VT, XT⟩
        iapply (step_load_blk c xTop (fun _ => rfl) (cut xTop (xA m c)) rfl) $$ VT
        iintro VT
        iapply (step_load c (wdkvA m c) (readAt_all cc0_stg0_0 ![0, 0] (by decide) _)) $$ Hdkv
        iintro Hdkv
        iapply (step_load c _ rfl) $$ S0
        iintro S0
        iapply (step_store c _ rfl) $$ S0
        iintro S0
        iapply (step_wait m K c (src := xM.slice xBot (fun _ => rfl)) (dst := xvM.slice xBot (fun _ => rfl)) 11 rfl rfl rfl (O := due1 c + due c 18) (above_own c)) $$ [R11 HO]
        · isplitl [R11]; · iexact R11
          isplitr; · iexact Hlev
          iexact HO
        iintro ⟨Z11, HO, Hp⟩
        ihave Hp := (Entails.of_eq (pay11 m c)) $$ Hp
        icases Hp with ⟨VB, XB⟩
        iapply (step_load_blk c xBot (fun _ => rfl) (cut xBot (xA m c)) rfl) $$ VB
        iintro VB
        iapply (step_load c (wdkvA m c) (readAt_all cc0_stg0_0 ![0, 0] (by decide) _)) $$ Hdkv
        iintro Hdkv
        iapply (step_load c _ rfl) $$ S0
        iintro S0
        iapply (step_store c (lat m c) (lat_stored m c f0)) $$ S0
        iintro S0
        iapply (step_send m K c (src := latM) (dst := latRxM) (q := fullShare) (fs := lat m c) (fd := p1) (k0_dev4_pr c) 15 18 rfl rfl rfl rfl rfl rfl
          (O₀ := due1 c + due c 18) (due1 c) rfl (BI.Entails.refl _) (filled18 m c p1)) $$ [R15 O18 S0 P1 HO]
        · isplitl [R15]; · iexact R15
          isplitl [O18]; · iexact O18
          isplitr; · iexact q18
          isplitl [S0]; · iexact S0
          isplitl [P1]; · iexact P1
          iexact HO
        iintro ⟨R15, HO⟩
        ihave Hx := ((part_two c fullShare main_v1 xTop xBot (fun _ => rfl) (fun _ => rfl) x_disjoint x_cover (xA m c)).2) $$ [XT XB]
        · isplitl [XT]; · iexact XT
          iexact XB
        ihave S8 := ((part_two c fullShare cc0_scratch8 xTop xBot (fun _ => rfl) (fun _ => rfl) x_disjoint x_cover (xA m c)).2) $$ [VT VB]
        · isplitl [VT]; · iexact VT
          iexact VB
        as_aux_lemma =>
          -- the rotary keys, the rotary queries, the queries
          iapply (step_wait m K c (src := wkrM) (dst := wkrvM) 12 rfl rfl amt12 (O := due1 c) (above_own' c)) $$ [R12 HO]
          · isplitl [R12]; · iexact R12
            isplitr; · iexact Hlev
            iexact HO
          iintro ⟨Z12, HO, Hp⟩
          ihave Hp := (Entails.of_eq (pay12 m c)) $$ Hp
          icases Hp with ⟨S9, Hwkr⟩
          iapply (step_load c (xA m c) (readAt_all cc0_scratch8 ![0, 0] (by decide) _)) $$ S8
          iintro S8
          iapply (step_load c (wkrA m c) (readAt_all cc0_scratch9 ![0, 0] (by decide) _)) $$ S9
          iintro S9
          iapply (step_load c _ rfl) $$ T6
          iintro T6
          iapply (step_store c (ropeKeys m c) (write_all cc0_stg6_0 ![0, 0] (by decide) g6 _)) $$ T6
          iintro T6
          iapply (step_wait m K c (src := wqrM.slice (wqrCols c) (fun _ => rfl)) (dst := wqrvM) 9 rfl rfl amt9 (O := due1 c) (above_own' c)) $$ [R9 HO]
          · isplitl [R9]; · iexact R9
            isplitr; · iexact Hlev
            iexact HO
          iintro ⟨Z9, HO, Hp⟩
          ihave Hp := (Entails.of_eq (pay9 m c)) $$ Hp
          icases Hp with ⟨S7, Hwqr⟩
          iapply (step_load c (xA m c) (readAt_all cc0_scratch8 ![0, 0] (by decide) _)) $$ S8
          iintro S8
          iapply (step_load c _ (readAt_all cc0_scratch7 ![0, 0] (by decide) (cut (wqrCols c) (wqrA m c)))) $$ S7
          iintro S7
          iapply (step_load c _ rfl) $$ T5
          iintro T5
          iapply (step_store c (ropeQueries m c) (write_all cc0_stg5_0 ![0, 0] (by decide) g5 _)) $$ T5
          iintro T5
          iapply (step_wait m K c (src := wqM.slice (wqCols c) (fun _ => rfl)) (dst := wqvM) 8 rfl rfl amt8 (O := due1 c) (above_own' c)) $$ [R8 HO]
          · isplitl [R8]; · iexact R8
            isplitr; · iexact Hlev
            iexact HO
          iintro ⟨Z8, HO, Hp⟩
          ihave Hp := (Entails.of_eq (pay8 m c)) $$ Hp
          icases Hp with ⟨S6, Hwq⟩
          iapply (step_load c (xA m c) (readAt_all cc0_scratch8 ![0, 0] (by decide) _)) $$ S8
          iintro S8
          iapply (step_load c _ (readAt_all cc0_scratch6 ![0, 0] (by decide) (cut (wqCols c) (wqA m c)))) $$ S6
          iintro S6
          iapply (step_load c _ rfl) $$ T7
          iintro T7
          iapply (step_store c (queries m c) (write_all cc0_stg7_0 ![0, 0] (by decide) g7 _)) $$ T7
          iintro T7
          ihave Hwq := ((part_rest c fullShare main_arg4 (wqCols c) (fun _ => rfl) (wqA m c)).2) $$ [Hwq Wq']
          · isplitl [Hwq]; · iexact Hwq
            iexact Wq'
          ihave Hwqr := ((part_rest c fullShare main_arg5 (wqrCols c) (fun _ => rfl) (wqrA m c)).2) $$ [Hwqr Wqr']
          · isplitl [Hwqr]; · iexact Hwqr
            iexact Wqr'
          as_aux_lemma =>
            -- what was sent and what was received
            iapply (step_wait m K c (src := wukRxM) (dst := wukM) 13 rfl rfl rfl (O := due1 c) (above_own' c)) $$ [R13 HO]
            · isplitl [R13]; · iexact R13
              isplitr; · iexact Hlev
              iexact HO
            iintro ⟨Z13, HO, S2⟩
            iapply (step_wait m K c (src := wukM) (dst := wukRxM) 16 rfl rfl rfl (O := due1 c) (above_due1 c)) $$ [R16 HO]
            · isplitl [R16]; · iexact R16
              isplitr; · iexact Hlev
              iexact HO
            iintro ⟨Z16, HO, S3⟩
            iapply (step_wait m K c (src := wuvRxM) (dst := wuvM) 14 rfl rfl rfl (O := due1 c) (above_own' c)) $$ [R14 HO]
            · isplitl [R14]; · iexact R14
              isplitr; · iexact Hlev
              iexact HO
            iintro ⟨Z14, HO, S4⟩
            iapply (step_wait m K c (src := wuvM) (dst := wuvRxM) 17 rfl rfl rfl (O := due1 c) (above_due1 c)) $$ [R17 HO]
            · isplitl [R17]; · iexact R17
              isplitr; · iexact Hlev
              iexact HO
            iintro ⟨Z17, HO, S5⟩
            iapply (step_wait m K c (src := latRxM) (dst := latM) 15 rfl rfl rfl (O := due1 c) (above_own' c)) $$ [R15 HO]
            · isplitl [R15]; · iexact R15
              isplitr; · iexact Hlev
              iexact HO
            iintro ⟨Z15, HO, S0⟩
            iapply (step_wait m K c (src := latM) (dst := latRxM) 18 rfl rfl rfl (O := due1 c) (above_due1 c)) $$ [R18 HO]
            · isplitl [R18]; · iexact R18
              isplitr; · iexact Hlev
              iexact HO
            iintro ⟨Z18, HO, S1⟩
            ihave S0 := (Entails.of_eq (pay15 m c)) $$ S0
            ihave S1 := (Entails.of_eq (pay18 m c)) $$ S1
            ihave S2 := (Entails.of_eq (pay13 m c)) $$ S2
            ihave S3 := (Entails.of_eq (pay16 m c)) $$ S3
            ihave S4 := (Entails.of_eq (pay14 m c)) $$ S4
            ihave S5 := (Entails.of_eq (pay17 m c)) $$ S5
            as_aux_lemma =>
              -- this device's columns of the keys and the values
              by_cases h : c.val < 16
              · rw [dif_pos ((low_word c).2 h), dif_neg fun h' => absurd h (Nat.not_lt.2 ((high_word c).1 h'))]
                iapply (step_load c (lat m c) (readAt_all cc0_scratch0 ![0, 0] (by decide) _)) $$ S0
                iintro S0
                iapply (step_load c (cut wLeft (wukB m c)) rfl) $$ S2
                iintro S2
                iapply (step_load c (lat m (pr c)) (readAt_all cc0_scratch1 ![0, 0] (by decide) _)) $$ S1
                iintro S1
                iapply (step_load c (cut wLeft (wukB m (pr c))) rfl) $$ S3
                iintro S3
                iapply (step_load c _ rfl) $$ T3
                iintro T3
                iapply (step_store c (keys m c) ((write_all cc0_stg3_0 ![0, 0] (by decide) g3 _).trans (keys_low m c h).symm)) $$ T3
                iintro T3
                iapply (step_load c (lat m c) (readAt_all cc0_scratch0 ![0, 0] (by decide) _)) $$ S0
                iintro S0
                iapply (step_load c (cut wLeft (wuvB m c)) rfl) $$ S4
                iintro S4
                iapply (step_load c (lat m (pr c)) (readAt_all cc0_scratch1 ![0, 0] (by decide) _)) $$ S1
                iintro S1
                iapply (step_load c (cut wLeft (wuvB m (pr c))) rfl) $$ S5
                iintro S5
                iapply (step_load c _ rfl) $$ T4
                iintro T4
                iapply (step_store c (vals m c) ((write_all cc0_stg4_0 ![0, 0] (by decide) g4 _).trans (vals_low m c h).symm)) $$ T4
                iintro T4
                iapply (run_ret c)
                iapply Hk
                unfold post0 spent0 reads0 scratch0 scr
                isplitl [Zb Z8 Z9 Z10 Z11 Z12 Z13 Z14 Z15 Z16 Z17 Z18]
                · isplitl [Zb]; · iexact Zb
                  isplitl [Z8]; · iexact Z8
                  isplitl [Z9]; · iexact Z9
                  isplitl [Z10]; · iexact Z10
                  isplitl [Z11]; · iexact Z11
                  isplitl [Z12]; · iexact Z12
                  isplitl [Z13]; · iexact Z13
                  isplitl [Z14]; · iexact Z14
                  isplitl [Z15]; · iexact Z15
                  isplitl [Z16]; · iexact Z16
                  isplitl [Z17]; · iexact Z17
                  iexact Z18
                isplitl [HO]; · iexact HO
                isplitl [Hx Hwq Hwqr Hwkr Hdkv Huk Huv]
                · isplitl [Hx]; · iexact Hx
                  isplitl [Hwq]; · iexact Hwq
                  isplitl [Hwqr]; · iexact Hwqr
                  isplitl [Hwkr]; · iexact Hwkr
                  isplitl [Hdkv]; · iexact Hdkv
                  isplitl [Huk]; · iexact Huk
                  iexact Huv
                isplitl [S0 S1 S2 S3 S4 S5 S6 S7 S8 S9]
                · isplitl [S0]; · iexists _; iexact S0
                  isplitl [S1]; · iexists _; iexact S1
                  isplitl [S2]; · iexists _; iexact S2
                  isplitl [S3]; · iexists _; iexact S3
                  isplitl [S4]; · iexists _; iexact S4
                  isplitl [S5]; · iexists _; iexact S5
                  isplitl [S6]; · iexists _; iexact S6
                  isplitl [S7]; · iexists _; iexact S7
                  isplitl [S8]; · iexists _; iexact S8
                  iexists _; iexact S9
                isplitl [T3]; · iexact T3
                isplitl [T4]; · iexact T4
                isplitl [T5]; · iexact T5
                isplitl [T6]; · iexact T6
                iexact T7
              · rw [dif_neg fun h' => h ((low_word c).1 h'), dif_pos ((high_word c).2 (Nat.le_of_not_lt h))]
                iapply (step_load c (lat m c) (readAt_all cc0_scratch0 ![0, 0] (by decide) _)) $$ S0
                iintro S0
                iapply (step_load c (cut wRight (wukB m c)) rfl) $$ S2
                iintro S2
                iapply (step_load c (lat m (pr c)) (readAt_all cc0_scratch1 ![0, 0] (by decide) _)) $$ S1
                iintro S1
                iapply (step_load c (cut wRight (wukB m (pr c))) rfl) $$ S3
                iintro S3
                iapply (step_load c _ rfl) $$ T3
                iintro T3
                iapply (step_store c (keys m c) ((write_all cc0_stg3_0 ![0, 0] (by decide) g3 _).trans (keys_high m c h).symm)) $$ T3
                iintro T3
                iapply (step_load c (lat m c) (readAt_all cc0_scratch0 ![0, 0] (by decide) _)) $$ S0
                iintro S0
                iapply (step_load c (cut wRight (wuvB m c)) rfl) $$ S4
                iintro S4
                iapply (step_load c (lat m (pr c)) (readAt_all cc0_scratch1 ![0, 0] (by decide) _)) $$ S1
                iintro S1
                iapply (step_load c (cut wRight (wuvB m (pr c))) rfl) $$ S5
                iintro S5
                iapply (step_load c _ rfl) $$ T4
                iintro T4
                iapply (step_store c (vals m c) ((write_all cc0_stg4_0 ![0, 0] (by decide) g4 _).trans (vals_high m c h).symm)) $$ T4
                iintro T4
                iapply (run_ret c)
                iapply Hk
                unfold post0 spent0 reads0 scratch0 scr
                isplitl [Zb Z8 Z9 Z10 Z11 Z12 Z13 Z14 Z15 Z16 Z17 Z18]
                · isplitl [Zb]; · iexact Zb
                  isplitl [Z8]; · iexact Z8
                  isplitl [Z9]; · iexact Z9
                  isplitl [Z10]; · iexact Z10
                  isplitl [Z11]; · iexact Z11
                  isplitl [Z12]; · iexact Z12
                  isplitl [Z13]; · iexact Z13
                  isplitl [Z14]; · iexact Z14
                  isplitl [Z15]; · iexact Z15
                  isplitl [Z16]; · iexact Z16
                  isplitl [Z17]; · iexact Z17
                  iexact Z18
                isplitl [HO]; · iexact HO
                isplitl [Hx Hwq Hwqr Hwkr Hdkv Huk Huv]
                · isplitl [Hx]; · iexact Hx
                  isplitl [Hwq]; · iexact Hwq
                  isplitl [Hwqr]; · iexact Hwqr
                  isplitl [Hwkr]; · iexact Hwkr
                  isplitl [Hdkv]; · iexact Hdkv
                  isplitl [Huk]; · iexact Huk
                  iexact Huv
                isplitl [S0 S1 S2 S3 S4 S5 S6 S7 S8 S9]
                · isplitl [S0]; · iexists _; iexact S0
                  isplitl [S1]; · iexists _; iexact S1
                  isplitl [S2]; · iexists _; iexact S2
                  isplitl [S3]; · iexists _; iexact S3
                  isplitl [S4]; · iexists _; iexact S4
                  isplitl [S5]; · iexists _; iexact S5
                  isplitl [S6]; · iexists _; iexact S6
                  isplitl [S7]; · iexists _; iexact S7
                  isplitl [S8]; · iexists _; iexact S8
                  iexists _; iexact S9
                isplitl [T3]; · iexact T3
                isplitl [T4]; · iexact T4
                isplitl [T5]; · iexact T5
                isplitl [T6]; · iexact T6
                iexact T7

end Cert.Proof.Mla

end
-- ==== Proof.Heads.lean ====
/- One head of the second call: its steps as one, and the eight heads of a buffer as the buffer. -/
module

public import proofs.«01_k».proof.Proof.Body0

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## A buffer and its eight blocks of columns -/

theorem headCols_disjoint : ∀ h ∈ (Finset.univ : Finset (Fin 8)), ∀ h' ∈ (Finset.univ : Finset (Fin 8)), h ≠ h' →
    Disjoint (headCols h).set (headCols h').set := by
  intro h _ h' _ hne
  rw [Finset.disjoint_left]
  intro i hi hi'
  have h1 := Rect.mem_set_unit.1 hi 1
  have h2 := Rect.mem_set_unit.1 hi' 1
  have e1 : 128 * h.val ≤ (i 1).val ∧ (i 1).val < 128 * h.val + 128 := h1
  have e2 : 128 * h'.val ≤ (i 1).val ∧ (i 1).val < 128 * h'.val + 128 := h2
  exact hne (Fin.ext (by omega))

theorem headCols_cover : (Finset.univ : Finset (Fin 8)).biUnion (fun h => (headCols h).set) = Finset.univ := by
  ext i
  simp only [Finset.mem_biUnion, Finset.mem_univ, true_and, iff_true]
  have hi : (i 1).val < 1024 := (i 1).isLt
  have hr : (i 0).val < 1024 := (i 0).isLt
  refine ⟨⟨(i 1).val / 128, by omega⟩, Rect.mem_set_unit.2 fun a => ?_⟩
  fin_cases a
  · show 0 ≤ (i 0).val ∧ (i 0).val < 0 + 1024
    omega
  · show 128 * ((i 1).val / 128) ≤ (i 1).val ∧ (i 1).val < 128 * ((i 1).val / 128) + 128
    omega

section Blocks
variable (c : Dev nD) (q : PosShare TreeShare)

/-- The whole of a buffer is its blocks. -/
theorem part_blocks (b : Ref sig .tc) (r : Fin 8 → Rect b.ty.shape) (h : ∀ j a, (r j).stride a = 1)
    (hd : ∀ j ∈ (Finset.univ : Finset (Fin 8)), ∀ j' ∈ (Finset.univ : Finset (Fin 8)), j ≠ j' → Disjoint (r j).set (r j').set)
    (hu : (Finset.univ : Finset (Fin 8)).biUnion (fun j => (r j).set) = Finset.univ) (f : b.ty.Contents (Elt F)) :
    (part (Memref.whole b) c q f : sProp 𝕄) = bigSep Finset.univ fun j => part (blk b (r j) (h j)) c q f := by
  simp only [part_whole, part_blk]
  rw [← hu]
  exact pointsTo_biUnion _ _ hd

theorem o_blocks (f : (cc1_scratch0 : Ref sig .tc).ty.Contents (Elt F)) :
    (part oM c q f : sProp 𝕄) = bigSep Finset.univ fun h => part (oCol h) c q f :=
  part_blocks c q cc1_scratch0 headCols (fun _ _ => rfl) headCols_disjoint headCols_cover f
theorem oRx_blocks (f : (cc1_scratch1 : Ref sig .tc).ty.Contents (Elt F)) :
    (part oRxM c q f : sProp 𝕄) = bigSep Finset.univ fun h => part (oRxCol h) c q f :=
  part_blocks c q cc1_scratch1 headCols (fun _ _ => rfl) headCols_disjoint headCols_cover f

end Blocks

/-- A head's columns of all heads are that head. -/
theorem heads_at (c : Dev nD) (h : Fin 8) (i : (headCols h).shape.Idx) : heads m c ((headCols h).emb i) = headOut m c h i := by
  have h0 : ((headCols h).emb i 0).val = (i 0).val := by
    rw [Rect.emb_apply]
    show 0 + 1 * (i 0).val = (i 0).val
    omega
  have h1 : ((headCols h).emb i 1).val = 128 * h.val + (i 1).val := by
    rw [Rect.emb_apply]
    show 128 * h.val + 1 * (i 1).val = _
    omega
  have hi : (i 1).val < 128 := (i 1).isLt
  unfold heads
  have e : (⟨((headCols h).emb i 1).val / 128, by rw [h1]; have := h.isLt; omega⟩ : Fin 8) = h := Fin.ext (by
    show ((headCols h).emb i 1).val / 128 = h.val
    rw [h1]; omega)
  rw [e]
  congr 1
  funext a
  fin_cases a
  · exact Fin.ext h0
  · refine Fin.ext ?_
    show ((headCols h).emb i 1).val % 128 = (i 1).val
    rw [h1]; omega

/-! ## A head's steps -/

/-- What a head reads. -/
def four (c : Dev nD) : sProp 𝕄 :=
  iprop(part (Memref.whole cc1_stg0_0) c fullShare (queries m c) ∗ part (Memref.whole cc1_stg3_0) c fullShare (keys m c)
    ∗ part (Memref.whole cc1_stg1_0) c fullShare (ropeQueries m c) ∗ part (Memref.whole cc1_stg4_0) c fullShare (vals m c))
/-- A head before it is computed: its cells, its columns here, and its columns of the partner's receive buffer; -/
def headIn (c : Dev nD) (h : Fin 8) : sProp 𝕄 :=
  iprop(ready m K c (sendS h) ∗ outgoing m K (pr c) (recvS h)
    ∗ ((∃ f, part (oRxCol h) (pr c) fullShare f) ∗ reached ER (dcell (pr c) (recvS h)) 0) ∗ (∃ f, part (oCol h) c fullShare f))
/-- while it is on its way; -/
def headMid (c : Dev nD) (h : Fin 8) : sProp 𝕄 := iprop(flying m K c (sendS h) ∗ part (oCol h) c fullShare.right (heads m c))
/-- and when it and the partner's have arrived. -/
def headEnd (c : Dev nD) (h : Fin 8) : sProp 𝕄 :=
  iprop(spent c (.dma (sendS h)) ∗ spent c (.dma (recvS h)) ∗ part (oCol h) c fullShare (heads m c)
    ∗ part (oRxCol h) c fullShare (heads m (pr c)))

section Step
variable (c : Dev nD) {α : Type} {Q : α → sProp (MT nD τ sig Unit (Elt F) ℕ UU ℕ)}

theorem sent_head (h : Fin 8) (f : (cc1_scratch1 : Ref sig .tc).ty.Contents (Elt F)) :
    part (oRxCol h) (pr c) fullShare ((oRxCol h).view.write (Elt F) f ((oCol h).view.read (Elt F) (heads m c)) Finset.univ)
      ⊢ dmaPay m (pr c) (recvS h) := by
  rw [pay_recv, pr_pr]
  exact Entails.of_eq (part_filled (pr c) fullShare cc1_scratch1 (headCols h) (fun _ => rfl) f (heads m c) (cut (headCols h) (heads m c)) (fun _ => rfl))

theorem stored_head (h : Fin 8) (f : (cc1_scratch0 : Ref sig .tc).ty.Contents (Elt F)) :
    (part (oM.slice (headCols h) (fun _ => rfl)) c fullShare ((oM.slice (headCols h) (fun _ => rfl)).view.write (Elt F) f
      (headVal (ropeKeys m c) (cut (headCols h) (queries m c)) (cut (headCols h) (keys m c)) (cut (ropeCols h) (ropeQueries m c))
        (cut (headCols h) (vals m c))) Finset.univ) : sProp 𝕄) = part (oCol h) c fullShare (heads m c) :=
  part_filled c fullShare cc1_scratch0 (headCols h) (fun _ => rfl) f (heads m c) (headOut m c h) (heads_at m c h)

/-- The loads of a head: its columns of the queries, keys and values, and its rotated query columns. -/
theorem head_load (h : Fin 8) (off off' : Fin 2 → ℕ) {inb : ∀ a, off a + S1024x128.size a ≤ S1024x1024.size a}
    {inb' : ∀ a, off' a + S1024x32.size a ≤ S1024x256.size a}
    {l1 : (Memref.whole cc1_stg0_0).view.LoadsAt (Rect.unit (s := S1024x1024) off S1024x128.size inb).toLoadRect}
    {l2 : (Memref.whole cc1_stg3_0).view.LoadsAt (Rect.unit (s := S1024x1024) off S1024x128.size inb).toLoadRect}
    {l3 : (Memref.whole cc1_stg1_0).view.LoadsAt (Rect.unit (s := S1024x256) off' S1024x32.size inb').toLoadRect}
    {l4 : (Memref.whole cc1_stg4_0).view.LoadsAt (Rect.unit (s := S1024x1024) off S1024x128.size inb).toLoadRect}
    {l5 : oM.view.LoadsAt (Rect.unit (s := S1024x1024) off S1024x128.size inb).toLoadRect}
    {k : Vec F S1024x128 .bf16 → Vec F S1024x128 .bf16 → Vec F S1024x32 .bf16 → Vec F S1024x128 .bf16 → Prog (TpuEff nD τ sig (Elt F) Λ₀ .tc) α}
    (hoff : off = ![0, 128 * h.val]) (hoff' : off' = ![0, 32 * h.val]) :
    iprop(headIn m K c h ∗ four m c)
      ⊢ iprop(((headIn m K c h ∗ four m c) -∗ run c (k (cut (headCols h) (queries m c)) (cut (headCols h) (keys m c))
            (cut (ropeCols h) (ropeQueries m c)) (cut (headCols h) (vals m c))) Q)
          -∗ run c (.op (.load (Memref.whole cc1_stg0_0) (Rect.unit (s := S1024x1024) off S1024x128.size inb).toLoadRect l1) fun a =>
            .op (.load (Memref.whole cc1_stg3_0) (Rect.unit (s := S1024x1024) off S1024x128.size inb).toLoadRect l2) fun b =>
            .op (.load (Memref.whole cc1_stg1_0) (Rect.unit (s := S1024x256) off' S1024x32.size inb').toLoadRect l3) fun e =>
            .op (.load (Memref.whole cc1_stg4_0) (Rect.unit (s := S1024x1024) off S1024x128.size inb).toLoadRect l4) fun v =>
            .op (.load oM (Rect.unit (s := S1024x1024) off S1024x128.size inb).toLoadRect l5) fun _ => k a b e v) Q) := by
  subst hoff hoff'
  unfold headIn four
  iintro ⟨⟨R, O, ⟨⟨%p, P⟩, #r⟩, ⟨%f, S⟩⟩, ⟨Hq, Hk', Hqr, Hv⟩⟩ Hk
  iapply (step_load c (cut (headCols h) (queries m c)) rfl) $$ Hq
  iintro Hq
  iapply (step_load c (cut (headCols h) (keys m c)) rfl) $$ Hk'
  iintro Hk'
  iapply (step_load c (cut (ropeCols h) (ropeQueries m c)) rfl) $$ Hqr
  iintro Hqr
  iapply (step_load c (cut (headCols h) (vals m c)) rfl) $$ Hv
  iintro Hv
  iapply (step_load_blk c (headCols h) (fun _ => rfl) _ rfl) $$ S
  iintro S
  iapply Hk
  isplitr [Hq Hk' Hqr Hv]
  · isplitl [R]; · iexact R
    isplitl [O]; · iexact O
    isplitl [P]
    · isplitl [P]
      · iexists p; iexact P
      iexact r
    iexists f; iexact S
  isplitl [Hq]; · iexact Hq
  isplitl [Hk']; · iexact Hk'
  isplitl [Hqr]; · iexact Hqr
  iexact Hv

/-- A head stored, and sent to the partner. -/
theorem head_send (h : Fin 8) (off : Fin 2 → ℕ) {inb : ∀ a, off a + S1024x128.size a ≤ S1024x1024.size a}
    {d : Dev nD} {sS sR : SemLoc sig} {w : FVec F S1024x128 .bf16}
    {hx : (oM.access (Rect.unit (s := S1024x1024) off S1024x128.size inb)).Stores Finset.univ}
    {hm : (Finset.univ : Finset (Rect.unit (s := S1024x1024) off S1024x128.size inb).shape.Idx) = Finset.univ
      ∨ ∀ a, (Rect.unit (s := S1024x1024) off S1024x128.size inb).stride a = 1}
    {g1 g2 : ∀ a, (Rect.unit (s := S1024x1024) off S1024x128.size inb).stride a = 1}
    {hsc : (oRxM.slice (Rect.unit (s := S1024x1024) off S1024x128.size inb) g2).view.ref.isScScratch = false}
    {hsrc : (oM.slice (Rect.unit (s := S1024x1024) off S1024x128.size inb) g1).view.WordExact}
    {hdst : (oRxM.slice (Rect.unit (s := S1024x1024) off S1024x128.size inb) g2).view.WordExact}
    {hsem : DmaTarget.Typed (p := (Proc.tc : Proc τ)) .vmem sR
      (.remote (Dev.tc d : Thread nD τ) (oRxM.slice (Rect.unit (s := S1024x1024) off S1024x128.size inb) g2) sS hsc)}
    {k : PUnit → Prog (TpuEff nD τ sig (Elt F) Λ₀ .tc) α}
    (hoff : off = ![0, 128 * h.val])
    (hw : w = headVal (ropeKeys m c) (cut (headCols h) (queries m c)) (cut (headCols h) (keys m c)) (cut (ropeCols h) (ropeQueries m c))
      (cut (headCols h) (vals m c)))
    (hd : d = pr c) (hs : sS = .dma (sendS h)) (hs' : sR = .dma (recvS h)) (n : ℕ) (hn : h.val = n) :
    iprop(headIn m K c h ∗ owe c (headDues c n))
      ⊢ iprop(((headMid m K c h ∗ owe c (headDues c (n + 1))) -∗ run c (k ⟨⟩) Q)
          -∗ run c (.op (.store oM (Rect.unit (s := S1024x1024) off S1024x128.size inb) w Finset.univ hx hm) fun _ =>
            .op (.enqueueDma (oM.slice (Rect.unit (s := S1024x1024) off S1024x128.size inb) g1) (.remote (Dev.tc d : Thread nD τ) (oRxM.slice (Rect.unit (s := S1024x1024) off S1024x128.size inb) g2) sS hsc) sR hsrc hdst hsem)
              k) Q) := by
  subst hoff hn
  unfold headIn
  iintro ⟨⟨R, O, ⟨⟨%p, P⟩, #r⟩, ⟨%f, S⟩⟩, HO⟩ Hk
  rw [hw]
  iapply (step_store_blk c (M := oM) (headCols h) (fun _ => rfl)) $$ S
  iintro S
  ihave S := (Entails.of_eq (stored_head m c h f)) $$ S
  ihave S2 := ((part_share c (oCol h) (heads m c)).1) $$ S
  icases S2 with ⟨SL, SR⟩
  iapply (step_send m K c (src := oCol h) (dst := oRxCol h) (q := fullShare.left) (fs := heads m c) (fd := p) hd (sendS h) (recvS h) hs hs'
    (talk_send h) (talk_recv h) (amt_send h).symm (amt_recv h).symm (O₀ := headDues c h.val) (headDues c (h.val + 1)) (headDues_step c h)
    (Entails.of_eq (pay_send m c h).symm) (sent_head m c h p)) $$ [R O SL P HO]
  · isplitl [R]; · iexact R
    isplitl [O]; · iexact O
    isplitr; · iexact r
    isplitl [SL]; · iexact SL
    isplitl [P]; · iexact P
    iexact HO
  iintro ⟨R, HO⟩
  iapply Hk
  unfold headMid
  isplitl [R SR]
  · isplitl [R]; · iexact R
    iexact SR
  iexact HO

theorem above_send (h : Fin 8) : Above (lvl (.dma (sendS h))) (0 : CellTallies nD τ sig Unit) := Above.zero _
theorem above_recv (h : Fin 8) : Above (lvl (.dma (recvS h))) (0 : CellTallies nD τ sig Unit) := Above.zero _

theorem wait_step (h : Fin 8) (off : Fin 2 → ℕ) {inb : ∀ a, off a + S1024x128.size a ≤ S1024x1024.size a} {sS sR : DmaSem sig}
    {g1 g2 g3 g4 : ∀ a, (Rect.unit (s := S1024x1024) off S1024x128.size inb).stride a = 1}
    {h1 : (oRxM.slice (Rect.unit (s := S1024x1024) off S1024x128.size inb) g1).view.WordExact}
    {h2 : (oM.slice (Rect.unit (s := S1024x1024) off S1024x128.size inb) g2).view.WordExact}
    {h3 : (oM.slice (Rect.unit (s := S1024x1024) off S1024x128.size inb) g3).view.WordExact}
    {h4 : (oRxM.slice (Rect.unit (s := S1024x1024) off S1024x128.size inb) g4).view.WordExact}
    {k : PUnit → Prog (TpuEff nD τ sig (Elt F) Λ₀ .tc) α}
    (hoff : off = ![0, 128 * h.val]) (hs : sS = sendS h) (hs' : sR = recvS h) :
    iprop(headMid m K c h ∗ flying m K c (recvS h) ∗ levAts L lv ∗ owe c 0)
      ⊢ iprop(((headEnd m c h ∗ owe c 0) -∗ run c (k ⟨⟩) Q)
          -∗ run c (.op (.waitDma2 sS (oRxM.slice (Rect.unit (s := S1024x1024) off S1024x128.size inb) g1)
              (oM.slice (Rect.unit (s := S1024x1024) off S1024x128.size inb) g2) h1 h2) fun _ =>
            .op (.waitDma2 sR (oM.slice (Rect.unit (s := S1024x1024) off S1024x128.size inb) g3)
              (oRxM.slice (Rect.unit (s := S1024x1024) off S1024x128.size inb) g4) h3 h4) k) Q) := by
  subst hoff
  unfold headMid
  iintro ⟨⟨R, SR⟩, V, #Hlev, HO⟩ Hk
  iapply (step_wait m K c (src := oRxCol h) (dst := oCol h) (sendS h) hs (talk_send h) (amt_send h).symm (O := 0) (above_send h)) $$ [R HO]
  · isplitl [R]; · iexact R
    isplitr; · iexact Hlev
    iexact HO
  iintro ⟨Z, HO, SL⟩
  ihave SL := (Entails.of_eq (pay_send m c h)) $$ SL
  iapply (step_wait m K c (src := oCol h) (dst := oRxCol h) (recvS h) hs' (talk_recv h) (amt_recv h).symm (O := 0) (above_recv h)) $$ [V HO]
  · isplitl [V]; · iexact V
    isplitr; · iexact Hlev
    iexact HO
  iintro ⟨Z', HO, P⟩
  ihave P := (Entails.of_eq (pay_recv m c h)) $$ P
  ihave S := ((part_share c (oCol h) (heads m c)).2) $$ [SL SR]
  · isplitl [SL]; · iexact SL
    iexact SR
  iapply Hk
  unfold headEnd
  isplitr [HO]
  · isplitl [Z]; · iexact Z
    isplitl [Z']; · iexact Z'
    isplitl [S]; · iexact S
    iexact P
  iexact HO

end Step

end Cert.Proof.Mla

end
-- ==== Proof.Body1.lean ====
/- The second call's body on one device: what it takes, what it leaves, and its run. -/
module

public import proofs.«01_k».proof.Proof.Heads

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body, at the buffers it is called with. -/
abbrev body1 : Prog (TpuEff nD τ sig (Elt F) Λ₀ .tc) PUnit :=
  cc1_body_cd (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _)
    (Memref.whole cc1_stg4_0) (Memref.isWhole_whole _) (Memref.whole main_arg7) (Memref.isWhole_whole _)
    (Memref.whole cc1_stg5_0) (Memref.isWhole_whole _) (Memref.whole cc1_scratch0) (Memref.isWhole_whole _)
    (Memref.whole cc1_scratch1) (Memref.isWhole_whole _) (Memref.whole cc1_scratch2) (Memref.isWhole_whole _)
    (Memref.whole cc1_scratch3) (Memref.isWhole_whole _) cc1_scratch4 cc1_scratch5 cc1_scratch6

variable (m : (ℓ : Loc nD τ sig) → Buf (Elt F) ℓ) (K : GSem nD τ sig → ℕ)

/-! ## The output's two forms -/

theorem ownPart_low (c : Dev nD) (h : c.val < 16) : ownPart m c = k1_pay22 (heads m c) (cut woTop (woA m c)) := if_pos h
theorem ownPart_high (c : Dev nD) (h : ¬ c.val < 16) : ownPart m c = k1_pay23 (heads m c) (cut woBot (woA m c)) := if_neg h
theorem result_low (c : Dev nD) (h : c.val < 16) : result m c = k1_pay24 (ownPart m c) (heads m (pr c)) (cut woBot (woA m c)) := if_pos h
theorem result_high (c : Dev nD) (h : ¬ c.val < 16) : result m c = k1_pay1 (ownPart m c) (heads m (pr c)) (cut woTop (woA m c)) := if_neg h

/-! ## What the body takes and leaves -/

/-- The second call's cells before it runs, as the device holds them, -/
def cells1 (c : Dev nD) : sProp 𝕄 :=
  iprop(barOut m K (pr c) bar1 ∗ barOwn m K c bar1 ∗ ready m K c 25
    ∗ (bigSep Finset.univ fun h : Fin 8 => ready m K c (sendS h)) ∗ (bigSep Finset.univ fun h : Fin 8 => incoming m K c (recvS h))
    ∗ bigSep Finset.univ fun h : Fin 8 => outgoing m K (pr c) (recvS h))
/-- and after it has run. -/
def spent1 (c : Dev nD) : sProp 𝕄 :=
  iprop(spent c (.reg bar1) ∗ spent c (.dma 25)
    ∗ bigSep Finset.univ fun h : Fin 8 => iprop(spent c (.dma (sendS h)) ∗ spent c (.dma (recvS h))))
/-- The array the call reads where it is, and its staged inputs. -/
def reads1 (c : Dev nD) : sProp 𝕄 :=
  iprop(part woM c fullShare (woA m c) ∗ four m c ∗ part (Memref.whole cc1_stg2_0) c fullShare (ropeKeys m c))
def scratch1 (c : Dev nD) : sProp 𝕄 := iprop(scr c cc1_scratch0 ∗ scr c cc1_scratch1 ∗ scr c cc1_scratch2 ∗ scr c cc1_scratch3)

def pre1 (c : Dev nD) : sProp 𝕄 :=
  iprop(cells1 m K c ∗ levAts L lv ∗ owe c (0 + due1 c) ∗ reads1 m c ∗ scratch1 c ∗ scr c cc1_stg5_0)
/-- The staged output holds the result. -/
def post1 (c : Dev nD) : sProp 𝕄 :=
  iprop(spent1 c ∗ owe c 0 ∗ reads1 m c ∗ scratch1 c ∗ part (Memref.whole cc1_stg5_0) c fullShare (result m c))

theorem sepAll (Φ Ψ : Fin 8 → sProp 𝕄) :
    (bigSep Finset.univ fun h => iprop(Φ h ∗ Ψ h)) = iprop(bigSep Finset.univ Φ ∗ bigSep Finset.univ Ψ) := BI.bigSep_sep _ _ _
theorem allMono {I : Type} [Fintype I] {Φ Ψ : I → sProp 𝕄} (h : ∀ j, Φ j ⊢ Ψ j) : bigSep Finset.univ Φ ⊢ bigSep Finset.univ Ψ :=
  BI.bigSep_mono fun j _ => h j
theorem eq_of_both {P P' : sProp 𝕄} (h : P ⊢ P') (h' : P' ⊢ P) : P = P' := BI.equiv_iff.mp ⟨h, h'⟩

section Cells
variable (c : Dev nD)

theorem amt25 : wovM.view.dmaCredit = dmaAmt 25 := by
  rw [dmaAmt, if_neg (by decide), if_neg (by decide), if_neg (by decide), if_neg (by decide), if_neg (by decide), if_neg (by decide),
    if_pos (by decide)]
theorem pay25 : (dmaPay m c 25 : sProp 𝕄) = iprop(part wovM c fullShare (woA m c) ∗ part woM c fullShare (woA m c)) := rfl
theorem filled25 (f : (cc1_scratch2 : Ref sig .tc).ty.Contents (Elt F)) :
    iprop(part wovM c fullShare (wovM.view.write (Elt F) f (woM.view.read (Elt F) (woA m c)) Finset.univ)
      ∗ part woM c fullShare (woA m c)) ⊢ dmaPay m c 25 :=
  sep_mono_left (Entails.of_eq (part_filled_all c fullShare cc1_scratch2 f (woA m c)))

/-- The barrier unit device `c` sends its partner carries `c`'s own receive buffer. -/
theorem pay_bar1 : (sched (F := F) m).payload (bcell (pr c) bar1) 0 ()
    = bigSep Finset.univ fun h : Fin 8 => iprop((∃ f, part (oRxCol h) c fullShare f) ∗ reached ER (dcell c (recvS h)) 0) := by
  show (if bar1 = bar0 then barPay0 (pr c) else barPay1 (pr c) : sProp 𝕄) = _
  rw [if_neg bar1_ne, barPay1_eq, pr_pr]

theorem above_call1 : Above (lvl (.reg bar1)) (headDues c 0) := Above.heads (by decide) c 0

/-- A buffer at some contents, its blocks each at some contents. -/
theorem o_scr : (scr c cc1_scratch0 : sProp 𝕄) ⊢ bigSep Finset.univ fun h : Fin 8 => iprop(∃ f, part (oCol h) c fullShare f) := by
  unfold scr
  iintro ⟨%f, H⟩
  ihave H := (Entails.of_eq (o_blocks c fullShare f)) $$ H
  iapply (allMono (Φ := fun h : Fin 8 => part (oCol h) c fullShare f) (Ψ := fun h : Fin 8 => iprop(∃ f, part (oCol h) c fullShare f)) fun h => by
    iintro H
    iexists f
    iexact H) $$ H
theorem oRx_scr : (scr c cc1_scratch1 : sProp 𝕄) ⊢ bigSep Finset.univ fun h : Fin 8 => iprop(∃ f, part (oRxCol h) c fullShare f) := by
  unfold scr
  iintro ⟨%f, H⟩
  ihave H := (Entails.of_eq (oRx_blocks c fullShare f)) $$ H
  iapply (allMono (Φ := fun h : Fin 8 => part (oRxCol h) c fullShare f) (Ψ := fun h : Fin 8 => iprop(∃ f, part (oRxCol h) c fullShare f)) fun h => by
    iintro H
    iexists f
    iexact H) $$ H

/-- The heads before they are computed, from their parts. -/
theorem all_headIn : (bigSep Finset.univ fun h : Fin 8 => headIn m K c h : sProp 𝕄)
    = iprop((bigSep Finset.univ fun h : Fin 8 => ready m K c (sendS h)) ∗ (bigSep Finset.univ fun h : Fin 8 => outgoing m K (pr c) (recvS h))
      ∗ (bigSep Finset.univ fun h : Fin 8 => iprop((∃ f, part (oRxCol h) (pr c) fullShare f) ∗ reached ER (dcell (pr c) (recvS h)) 0))
      ∗ bigSep Finset.univ fun h : Fin 8 => iprop(∃ f, part (oCol h) c fullShare f)) := by
  unfold headIn
  rw [sepAll, sepAll (fun h => outgoing m K (pr c) (recvS h)),
    sepAll (fun h => iprop((∃ f, part (oRxCol h) (pr c) fullShare f) ∗ reached ER (dcell (pr c) (recvS h)) 0))]
/-- The heads on their way: their cells, and the half of the buffer kept. -/
theorem mids : (bigSep Finset.univ fun h : Fin 8 => headMid m K c h : sProp 𝕄)
    = iprop((bigSep Finset.univ fun h : Fin 8 => flying m K c (sendS h)) ∗ part oM c fullShare.right (heads m c)) := by
  unfold headMid
  rw [sepAll, o_blocks c fullShare.right (heads m c)]
/-- The heads arrived: their cells, and both buffers. -/
theorem ends : (bigSep Finset.univ fun h : Fin 8 => headEnd m c h : sProp 𝕄)
    = iprop((bigSep Finset.univ fun h : Fin 8 => iprop(spent c (.dma (sendS h)) ∗ spent c (.dma (recvS h))))
      ∗ part oM c fullShare (heads m c) ∗ part oRxM c fullShare (heads m (pr c))) := by
  have e : (fun h : Fin 8 => headEnd m c h : Fin 8 → sProp 𝕄) = fun h => iprop((spent c (.dma (sendS h)) ∗ spent c (.dma (recvS h)))
      ∗ part (oCol h) c fullShare (heads m c) ∗ part (oRxCol h) c fullShare (heads m (pr c))) := by
    funext h
    unfold headEnd
    refine eq_of_both ?_ ?_
    · iintro ⟨A, B, C⟩
      isplitl [A B]
      · isplitl [A]; · iexact A
        iexact B
      iexact C
    · iintro ⟨⟨A, B⟩, C⟩
      isplitl [A]; · iexact A
      isplitl [B]; · iexact B
      iexact C
  rw [e, sepAll, sepAll (fun h => part (oCol h) c fullShare (heads m c)), o_blocks c fullShare (heads m c), oRx_blocks c fullShare (heads m (pr c))]

end Cells

set_option maxHeartbeats 4000000 in
theorem run1 (c : Dev nD) (Q : PUnit → sProp (MT nD τ sig Unit (Elt F) ℕ UU ℕ)) :
    iprop(pre1 m K c ∗ (post1 m c -∗ Q ⟨⟩)) ⊢ run c (body1 (F := F)) Q := by
  unfold body1
  simp only [cc1_body_cd_eq_skeleton]
  unfold cc1_body_cd_skel
  simp only [k1_part14_eq_skeleton]
  unfold k1_part14_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton,
    k1_part11_eq_skeleton, k1_part12_eq_skeleton, k1_part13_eq_skeleton]
  unfold k1_part1_skel k1_part2_skel k1_part3_skel k1_part4_skel k1_part5_skel k1_part6_skel k1_part7_skel k1_part8_skel k1_part9_skel
    k1_part10_skel k1_part11_skel k1_part12_skel k1_part13_skel
  simp only [semSignalWord, semWaitWord, Prog.lift, Prog.bind_op, Prog.bind_ret, Prog.pure_eq_ret, Prog.bind_assoc, run_deviceId]
  unfold pre1 cells1 reads1 scratch1
  iintro ⟨⟨⟨Bo, Bi, R25, Rs, Vs, Os⟩, #Hlev, HO, ⟨Hwo, H4, Hkr⟩, ⟨So, Sr, Sw, Sa⟩, T⟩, Hk⟩
  unfold incoming
  ihave Vs := (Entails.of_eq (sepAll (fun h => flying m K c (recvS h)) fun h => reached ER (dcell c (recvS h)) 0)) $$ Vs
  icases Vs with ⟨Vs, rs⟩
  ihave So := (o_scr c) $$ So
  ihave Sr := (oRx_scr c) $$ Sr
  unfold scr
  icases Sw with ⟨%fw, Sw⟩
  icases Sa with ⟨%fa, Sa⟩
  icases T with ⟨%ft, T⟩
  -- the barrier: the receive buffer goes to the partner, and the partner's comes
  iapply (step_signal m K c (b := bar1) (k1_dev1_pr c) rfl rfl (O₀ := 0 + due1 c) (headDues c 0)
    (by unfold due1; exact zero_add _)) $$ [Bo HO Sr rs]
  · isplitl [Bo]; · iexact Bo
    isplitl [Sr rs]
    · iapply (Entails.of_eq (pay_bar1 m c).symm)
      iapply (Entails.of_eq (sepAll _ _).symm)
      isplitl [Sr]; · iexact Sr
      iexact rs
    iexact HO
  iintro HO
  iapply (step_barrier m K c (b := bar1) rfl rfl (O := headDues c 0) (above_call1 c) (rest_bar1 m c)) $$ [Bi HO]
  · isplitl [Bi]; · iexact Bi
    isplitr; · iexact Hlev
    iexact HO
  iintro ⟨Zb, HO, Hp⟩
  ihave Hp := (Entails.of_eq (barPay1_eq c)) $$ Hp
  iapply (step_copy m K c (src := woM) (dst := wovM) (fs := woA m c) (fd := fw) 25 rfl rfl amt25 (filled25 m c fw)) $$ [R25 Hwo Sw]
  · isplitl [R25]; · iexact R25
    isplitl [Hwo]; · iexact Hwo
    iexact Sw
  iintro R25
  iapply (step_load c (ropeKeys m c) (readAt_all cc1_stg2_0 ![0, 0] (by decide) _)) $$ Hkr
  iintro Hkr
  ihave Hin := (Entails.of_eq ((all_headIn m K c).symm.trans (bigSep_W0 fun h => headIn m K c h) :
      iprop((bigSep Finset.univ fun h : Fin 8 => ready m K c (sendS h)) ∗ (bigSep Finset.univ fun h : Fin 8 => outgoing m K (pr c) (recvS h))
        ∗ (bigSep Finset.univ fun h : Fin 8 => iprop((∃ f, part (oRxCol h) (pr c) fullShare f) ∗ reached ER (dcell (pr c) (recvS h)) 0))
        ∗ bigSep Finset.univ fun h : Fin 8 => iprop(∃ f, part (oCol h) c fullShare f))
      = iprop(headIn m K c 0 ∗ headIn m K c 1 ∗ headIn m K c 2 ∗ headIn m K c 3 ∗ headIn m K c 4 ∗ headIn m K c 5 ∗ headIn m K c 6
        ∗ headIn m K c 7))) $$ [Rs Os Hp So]
  · isplitl [Rs]; · iexact Rs
    isplitl [Os]; · iexact Os
    isplitl [Hp]; · iexact Hp
    iexact So
  icases Hin with ⟨I0, I1, I2, I3, I4, I5, I6, I7⟩
  as_aux_lemma =>
    -- the heads, each sent as soon as it is computed
    iapply (head_load m K c 0 ![0, 0] ![0, 0] rfl rfl) $$ [I0 H4]
    · isplitl [I0]; · iexact I0
      iexact H4
    iintro ⟨I0, H4⟩
    iapply (head_send m K c 0 ![0, 0] rfl (head0_eq _ _ _ _ _) (k1_dev2_pr c) rfl rfl 0 rfl) $$ [I0 HO]
    · isplitl [I0]; · iexact I0
      iexact HO
    iintro ⟨M0, HO⟩
    iapply (head_load m K c 1 ![0, 128] ![0, 32] rfl rfl) $$ [I1 H4]
    · isplitl [I1]; · iexact I1
      iexact H4
    iintro ⟨I1, H4⟩
    iapply (head_send m K c 1 ![0, 128] rfl (head1_eq _ _ _ _ _) (k1_dev3_pr c) rfl rfl 1 rfl) $$ [I1 HO]
    · isplitl [I1]; · iexact I1
      iexact HO
    iintro ⟨M1, HO⟩
    iapply (head_load m K c 2 ![0, 256] ![0, 64] rfl rfl) $$ [I2 H4]
    · isplitl [I2]; · iexact I2
      iexact H4
    iintro ⟨I2, H4⟩
    iapply (head_send m K c 2 ![0, 256] rfl (head2_eq _ _ _ _ _) (k1_dev4_pr c) rfl rfl 2 rfl) $$ [I2 HO]
    · isplitl [I2]; · iexact I2
      iexact HO
    iintro ⟨M2, HO⟩
    iapply (head_load m K c 3 ![0, 384] ![0, 96] rfl rfl) $$ [I3 H4]
    · isplitl [I3]; · iexact I3
      iexact H4
    iintro ⟨I3, H4⟩
    iapply (head_send m K c 3 ![0, 384] rfl (head3_eq _ _ _ _ _) (k1_dev5_pr c) rfl rfl 3 rfl) $$ [I3 HO]
    · isplitl [I3]; · iexact I3
      iexact HO
    iintro ⟨M3, HO⟩
    as_aux_lemma =>
      iapply (head_load m K c 4 ![0, 512] ![0, 128] rfl rfl) $$ [I4 H4]
      · isplitl [I4]; · iexact I4
        iexact H4
      iintro ⟨I4, H4⟩
      iapply (head_send m K c 4 ![0, 512] rfl (head4_eq _ _ _ _ _) (k1_dev6_pr c) rfl rfl 4 rfl) $$ [I4 HO]
      · isplitl [I4]; · iexact I4
        iexact HO
      iintro ⟨M4, HO⟩
      iapply (head_load m K c 5 ![0, 640] ![0, 160] rfl rfl) $$ [I5 H4]
      · isplitl [I5]; · iexact I5
        iexact H4
      iintro ⟨I5, H4⟩
      iapply (head_send m K c 5 ![0, 640] rfl (head5_eq _ _ _ _ _) (k1_dev7_pr c) rfl rfl 5 rfl) $$ [I5 HO]
      · isplitl [I5]; · iexact I5
        iexact HO
      iintro ⟨M5, HO⟩
      iapply (head_load m K c 6 ![0, 768] ![0, 192] rfl rfl) $$ [I6 H4]
      · isplitl [I6]; · iexact I6
        iexact H4
      iintro ⟨I6, H4⟩
      iapply (head_send m K c 6 ![0, 768] rfl rfl (k1_dev8_pr c) rfl rfl 6 rfl) $$ [I6 HO]
      · isplitl [I6]; · iexact I6
        iexact HO
      iintro ⟨M6, HO⟩
      iapply (head_load m K c 7 ![0, 896] ![0, 224] rfl rfl) $$ [I7 H4]
      · isplitl [I7]; · iexact I7
        iexact H4
      iintro ⟨I7, H4⟩
      iapply (head_send m K c 7 ![0, 896] rfl (head7_eq _ _ _ _ _) (k1_dev9_pr c) rfl rfl 7 rfl) $$ [I7 HO]
      · isplitl [I7]; · iexact I7
        iexact HO
      iintro ⟨M7, HO⟩
      as_aux_lemma =>
        ihave HO := (Entails.of_eq (by rw [headDues_end] : owe c (headDues c 8) = (owe c 0 : sProp 𝕄))) $$ HO
        ihave Hm := (Entails.of_eq ((bigSep_W0 fun h => headMid m K c h).symm.trans (mids m K c))) $$ [M0 M1 M2 M3 M4 M5 M6 M7]
        · isplitl [M0]; · iexact M0
          isplitl [M1]; · iexact M1
          isplitl [M2]; · iexact M2
          isplitl [M3]; · iexact M3
          isplitl [M4]; · iexact M4
          isplitl [M5]; · iexact M5
          isplitl [M6]; · iexact M6
          iexact M7
        icases Hm with ⟨Rs, So⟩
        -- the product with the rows of this device's heads
        iapply (step_wait m K c (src := woM) (dst := wovM) 25 rfl rfl amt25 (O := 0) (Above.zero _)) $$ [R25 HO]
        · isplitl [R25]; · iexact R25
          isplitr; · iexact Hlev
          iexact HO
        iintro ⟨Z25, HO, Hp⟩
        ihave Hp := (Entails.of_eq (pay25 m c)) $$ Hp
        icases Hp with ⟨Wv, Hwo⟩
        by_cases h : c.val < 16
        · rw [dif_pos ((low_word c).2 h), dif_neg fun h' => absurd h (Nat.not_lt.2 ((high_word c).1 h'))]
          iapply (step_load c (heads m c) (readAt_all cc1_scratch0 ![0, 0] (by decide) _)) $$ So
          iintro So
          iapply (step_load c (cut woTop (woA m c)) rfl) $$ Wv
          iintro Wv
          iapply (step_load c _ rfl) $$ Sa
          iintro Sa
          iapply (step_store c (ownPart m c) ((write_all cc1_scratch3 ![0, 0] (by decide) fa _).trans (ownPart_low m c h).symm)) $$ Sa
          iintro Sa
          ihave Hm := (Entails.of_eq ((mids m K c).symm.trans (bigSep_W0 fun h => headMid m K c h))) $$ [Rs So]
          · isplitl [Rs]; · iexact Rs
            iexact So
          icases Hm with ⟨M0, M1, M2, M3, M4, M5, M6, M7⟩
          ihave Vs := (Entails.of_eq (bigSep_W0 fun h => flying m K c (recvS h))) $$ Vs
          icases Vs with ⟨V0, V1, V2, V3, V4, V5, V6, V7⟩
          as_aux_lemma =>
            iapply (wait_step m K c 0 ![0, 0] rfl rfl rfl) $$ [M0 V0 HO]
            · isplitl [M0]; · iexact M0
              isplitl [V0]; · iexact V0
              isplitr; · iexact Hlev
              iexact HO
            iintro ⟨E0, HO⟩
            iapply (wait_step m K c 1 ![0, 128] rfl rfl rfl) $$ [M1 V1 HO]
            · isplitl [M1]; · iexact M1
              isplitl [V1]; · iexact V1
              isplitr; · iexact Hlev
              iexact HO
            iintro ⟨E1, HO⟩
            iapply (wait_step m K c 2 ![0, 256] rfl rfl rfl) $$ [M2 V2 HO]
            · isplitl [M2]; · iexact M2
              isplitl [V2]; · iexact V2
              isplitr; · iexact Hlev
              iexact HO
            iintro ⟨E2, HO⟩
            iapply (wait_step m K c 3 ![0, 384] rfl rfl rfl) $$ [M3 V3 HO]
            · isplitl [M3]; · iexact M3
              isplitl [V3]; · iexact V3
              isplitr; · iexact Hlev
              iexact HO
            iintro ⟨E3, HO⟩
            iapply (wait_step m K c 4 ![0, 512] rfl rfl rfl) $$ [M4 V4 HO]
            · isplitl [M4]; · iexact M4
              isplitl [V4]; · iexact V4
              isplitr; · iexact Hlev
              iexact HO
            iintro ⟨E4, HO⟩
            iapply (wait_step m K c 5 ![0, 640] rfl rfl rfl) $$ [M5 V5 HO]
            · isplitl [M5]; · iexact M5
              isplitl [V5]; · iexact V5
              isplitr; · iexact Hlev
              iexact HO
            iintro ⟨E5, HO⟩
            iapply (wait_step m K c 6 ![0, 768] rfl rfl rfl) $$ [M6 V6 HO]
            · isplitl [M6]; · iexact M6
              isplitl [V6]; · iexact V6
              isplitr; · iexact Hlev
              iexact HO
            iintro ⟨E6, HO⟩
            iapply (wait_step m K c 7 ![0, 896] rfl rfl rfl) $$ [M7 V7 HO]
            · isplitl [M7]; · iexact M7
              isplitl [V7]; · iexact V7
              isplitr; · iexact Hlev
              iexact HO
            iintro ⟨E7, HO⟩
            ihave He := (Entails.of_eq ((bigSep_W0 fun h => headEnd m c h).symm.trans (ends m c))) $$ [E0 E1 E2 E3 E4 E5 E6 E7]
            · isplitl [E0]; · iexact E0
              isplitl [E1]; · iexact E1
              isplitl [E2]; · iexact E2
              isplitl [E3]; · iexact E3
              isplitl [E4]; · iexact E4
              isplitl [E5]; · iexact E5
              isplitl [E6]; · iexact E6
              iexact E7
            icases He with ⟨Zs, So, Sr⟩
            -- the product with the rows of the partner's heads
            rw [dif_pos ((low_word c).2 h)]
            simp only [Prog.bind_op, Prog.bind_ret, Prog.bind_assoc, dif_neg fun h' => absurd h (Nat.not_lt.2 ((high_word c).1 h'))]
            iapply (step_load c (ownPart m c) (readAt_all cc1_scratch3 ![0, 0] (by decide) _)) $$ Sa
            iintro Sa
            iapply (step_load c (heads m (pr c)) (readAt_all cc1_scratch1 ![0, 0] (by decide) _)) $$ Sr
            iintro Sr
            iapply (step_load c (cut woBot (woA m c)) rfl) $$ Wv
            iintro Wv
            iapply (step_load c _ rfl) $$ T
            iintro T
            iapply (step_store c (result m c) ((write_all cc1_stg5_0 ![0, 0, 0] (by decide) ft _).trans (result_low m c h).symm)) $$ T
            iintro T
            iapply (run_ret c)
            iapply Hk
            unfold post1 spent1 reads1 scratch1 scr
            isplitl [Zb Z25 Zs]
            · isplitl [Zb]; · iexact Zb
              isplitl [Z25]; · iexact Z25
              iexact Zs
            isplitl [HO]; · iexact HO
            isplitl [Hwo H4 Hkr]
            · isplitl [Hwo]; · iexact Hwo
              isplitl [H4]; · iexact H4
              iexact Hkr
            isplitl [So Sr Wv Sa]
            · isplitl [So]; · iexists _; iexact So
              isplitl [Sr]; · iexists _; iexact Sr
              isplitl [Wv]; · iexists _; iexact Wv
              iexists _; iexact Sa
            iexact T
        · rw [dif_neg fun h' => h ((low_word c).1 h'), dif_pos ((high_word c).2 (Nat.le_of_not_lt h))]
          iapply (step_load c (heads m c) (readAt_all cc1_scratch0 ![0, 0] (by decide) _)) $$ So
          iintro So
          iapply (step_load c (cut woBot (woA m c)) rfl) $$ Wv
          iintro Wv
          iapply (step_load c _ rfl) $$ Sa
          iintro Sa
          iapply (step_store c (ownPart m c) ((write_all cc1_scratch3 ![0, 0] (by decide) fa _).trans (ownPart_high m c h).symm)) $$ Sa
          iintro Sa
          ihave Hm := (Entails.of_eq ((mids m K c).symm.trans (bigSep_W0 fun h => headMid m K c h))) $$ [Rs So]
          · isplitl [Rs]; · iexact Rs
            iexact So
          icases Hm with ⟨M0, M1, M2, M3, M4, M5, M6, M7⟩
          ihave Vs := (Entails.of_eq (bigSep_W0 fun h => flying m K c (recvS h))) $$ Vs
          icases Vs with ⟨V0, V1, V2, V3, V4, V5, V6, V7⟩
          as_aux_lemma =>
            iapply (wait_step m K c 0 ![0, 0] rfl rfl rfl) $$ [M0 V0 HO]
            · isplitl [M0]; · iexact M0
              isplitl [V0]; · iexact V0
              isplitr; · iexact Hlev
              iexact HO
            iintro ⟨E0, HO⟩
            iapply (wait_step m K c 1 ![0, 128] rfl rfl rfl) $$ [M1 V1 HO]
            · isplitl [M1]; · iexact M1
              isplitl [V1]; · iexact V1
              isplitr; · iexact Hlev
              iexact HO
            iintro ⟨E1, HO⟩
            iapply (wait_step m K c 2 ![0, 256] rfl rfl rfl) $$ [M2 V2 HO]
            · isplitl [M2]; · iexact M2
              isplitl [V2]; · iexact V2
              isplitr; · iexact Hlev
              iexact HO
            iintro ⟨E2, HO⟩
            iapply (wait_step m K c 3 ![0, 384] rfl rfl rfl) $$ [M3 V3 HO]
            · isplitl [M3]; · iexact M3
              isplitl [V3]; · iexact V3
              isplitr; · iexact Hlev
              iexact HO
            iintro ⟨E3, HO⟩
            iapply (wait_step m K c 4 ![0, 512] rfl rfl rfl) $$ [M4 V4 HO]
            · isplitl [M4]; · iexact M4
              isplitl [V4]; · iexact V4
              isplitr; · iexact Hlev
              iexact HO
            iintro ⟨E4, HO⟩
            iapply (wait_step m K c 5 ![0, 640] rfl rfl rfl) $$ [M5 V5 HO]
            · isplitl [M5]; · iexact M5
              isplitl [V5]; · iexact V5
              isplitr; · iexact Hlev
              iexact HO
            iintro ⟨E5, HO⟩
            iapply (wait_step m K c 6 ![0, 768] rfl rfl rfl) $$ [M6 V6 HO]
            · isplitl [M6]; · iexact M6
              isplitl [V6]; · iexact V6
              isplitr; · iexact Hlev
              iexact HO
            iintro ⟨E6, HO⟩
            iapply (wait_step m K c 7 ![0, 896] rfl rfl rfl) $$ [M7 V7 HO]
            · isplitl [M7]; · iexact M7
              isplitl [V7]; · iexact V7
              isplitr; · iexact Hlev
              iexact HO
            iintro ⟨E7, HO⟩
            ihave He := (Entails.of_eq ((bigSep_W0 fun h => headEnd m c h).symm.trans (ends m c))) $$ [E0 E1 E2 E3 E4 E5 E6 E7]
            · isplitl [E0]; · iexact E0
              isplitl [E1]; · iexact E1
              isplitl [E2]; · iexact E2
              isplitl [E3]; · iexact E3
              isplitl [E4]; · iexact E4
              isplitl [E5]; · iexact E5
              isplitl [E6]; · iexact E6
              iexact E7
            icases He with ⟨Zs, So, Sr⟩
            -- the product with the rows of the partner's heads
            rw [dif_neg fun h' => h ((low_word c).1 h'), Prog.bind_ret, dif_pos ((high_word c).2 (Nat.le_of_not_lt h))]
            iapply (step_load c (ownPart m c) (readAt_all cc1_scratch3 ![0, 0] (by decide) _)) $$ Sa
            iintro Sa
            iapply (step_load c (heads m (pr c)) (readAt_all cc1_scratch1 ![0, 0] (by decide) _)) $$ Sr
            iintro Sr
            iapply (step_load c (cut woTop (woA m c)) rfl) $$ Wv
            iintro Wv
            iapply (step_load c _ rfl) $$ T
            iintro T
            iapply (step_store c (result m c) ((write_all cc1_stg5_0 ![0, 0, 0] (by decide) ft _).trans (result_high m c h).symm)) $$ T
            iintro T
            iapply (run_ret c)
            iapply Hk
            unfold post1 spent1 reads1 scratch1 scr
            isplitl [Zb Z25 Zs]
            · isplitl [Zb]; · iexact Zb
              isplitl [Z25]; · iexact Z25
              iexact Zs
            isplitl [HO]; · iexact HO
            isplitl [Hwo H4 Hkr]
            · isplitl [Hwo]; · iexact Hwo
              isplitl [H4]; · iexact H4
              iexact Hkr
            isplitl [So Sr Wv Sa]
            · isplitl [So]; · iexists _; iexact So
              isplitl [Sr]; · iexists _; iexact Sr
              isplitl [Wv]; · iexists _; iexact Wv
              iexists _; iexact Sa
            iexact T

end Cert.Proof.Mla

end
-- ==== Proof.Data.lean ====
/- What each call's arrays and staged blocks hold, before and after. -/
module

public import proofs.«01_k».proof.Proof.Body0
public import proofs.«01_k».proof.Proof.Body1
public import proofs.«01_k».proof.Proof.Gen.KernelIdeal.Regions
public import Idealize.ShloMosaic.Lib.Pipeline.ValueKit

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ)

/-! ## The arrays between the calls -/

/-- The arrays after the first call, -/
def V₂ (c : Dev nD) : Valuation τ sig (Elt F) :=
  Function.update (Function.update (Function.update (Function.update (Function.update (V₁ m c) main_v2_0 (keys m c)) main_v2_1 (vals m c))
    main_v2_2 (ropeQueries m c)) main_v2_3 (ropeKeys m c)) main_v2_4 (queries m c)
/-- and after the second. -/
def V₃ (c : Dev nD) : Valuation τ sig (Elt F) := Function.update (V₂ m c) main_v3 (result m c)

theorem upd_ne {r r' : Ref sig .tc} (h : r ≠ r') (V : Valuation τ sig (Elt F)) (x : (Proc.devRef (τ := τ) .tc r').ty.Contents (Elt F)) :
    Function.update V r' x (Proc.devRef .tc r) = V (Proc.devRef .tc r) := Function.update_of_ne (StableHlo.devRef_ne_of_ne h) _ _

theorem V₂_of (c : Dev nD) (r : Ref sig .tc) (h : r ∉ [main_v2_0, main_v2_1, main_v2_2, main_v2_3, main_v2_4]) : V₂ m c r = V₁ m c r := by
  simp only [List.mem_cons, List.not_mem_nil, or_false, not_or] at h
  obtain ⟨h0, h1, h2, h3, h4⟩ := h
  unfold V₂
  rw [upd_ne h4, upd_ne h3, upd_ne h2, upd_ne h1, upd_ne h0]
theorem V₂_keys (c : Dev nD) : V₂ m c main_v2_0 = keys m c := by
  unfold V₂
  rw [upd_ne (by decide), upd_ne (by decide), upd_ne (by decide), upd_ne (by decide)]; exact Function.update_self _ _ _
theorem V₂_vals (c : Dev nD) : V₂ m c main_v2_1 = vals m c := by
  unfold V₂
  rw [upd_ne (by decide), upd_ne (by decide), upd_ne (by decide)]; exact Function.update_self _ _ _
theorem V₂_ropeQueries (c : Dev nD) : V₂ m c main_v2_2 = ropeQueries m c := by
  unfold V₂
  rw [upd_ne (by decide), upd_ne (by decide)]; exact Function.update_self _ _ _
theorem V₂_ropeKeys (c : Dev nD) : V₂ m c main_v2_3 = ropeKeys m c := by
  unfold V₂
  rw [upd_ne (by decide)]; exact Function.update_self _ _ _
theorem V₂_queries (c : Dev nD) : V₂ m c main_v2_4 = queries m c := Function.update_self _ _ _
theorem V₃_of (c : Dev nD) (r : Ref sig .tc) (h : r ≠ main_v3) : V₃ m c r = V₂ m c r := upd_ne h _ _
theorem V₃_result (c : Dev nD) : V₃ m c main_v3 = result m c := Function.update_self _ _ _

/-- An argument is the same before and after. -/
theorem V₃_arg (c : Dev nD) (r : Ref sig .tc) (h : r ∉ [main_v2_0, main_v2_1, main_v2_2, main_v2_3, main_v2_4]) (h3 : r ≠ main_v3)
    (h1 : r ∉ hostOps0_W) : V₃ m c r = m ((c : Thread nD τ).loc r) :=
  (V₃_of m c r h3).trans <| (V₂_of m c r h).trans <| V1_of m c r h1

/-! ## The calls' data -/

/-- The first call's copies on a device, and the transfers it receives. -/
abbrev copyS (k : Fin 8) : DmaSem sig := ⟨8 + k.val, by have := k.isLt; show 8 + k.val < 42; omega⟩
abbrev takeS (k : Fin 3) : DmaSem sig := ⟨16 + k.val, by have := k.isLt; show 16 + k.val < 42; omega⟩
/-- The semaphores a call waits on besides its barrier. -/
abbrev osem0 : Fin 8 ⊕ Fin 3 → SemLoc sig := Sum.elim (fun k => .dma (copyS k)) fun k => .dma (takeS k)
abbrev osem1 : Unit ⊕ Fin 8 ⊕ Fin 8 → SemLoc sig := Sum.elim (fun _ => .dma 25) (Sum.elim (fun h => .dma (sendS h)) fun h => .dma (recvS h))

/-- The arrays a call reads or writes where they are. -/
abbrev hs0 : Finset (DevRef τ sig) := {Proc.devRef .tc main_v1, Proc.devRef .tc main_arg4, Proc.devRef .tc main_arg5, Proc.devRef .tc main_arg6}
abbrev hs1 : Finset (DevRef τ sig) := {Proc.devRef .tc main_arg7}

/-- What enters the first call beside its buffers, and what is left of it. -/
def enter0 (c : Dev nD) : sProp 𝕄 := iprop((∃ K, cells0 m K c) ∗ levAts L lv)
def leave0 (c : Dev nD) : sProp 𝕄 := spent c (.reg bar0)
def enter1 (c : Dev nD) : sProp 𝕄 := iprop((∃ K, cells1 m K c) ∗ levAts L lv)
def leave1 (c : Dev nD) : sProp 𝕄 := spent c (.reg bar1)

/-- The first call's data: what its arrays and staged blocks hold, and what goes in and comes out beside them. -/
def dat0 (c : Dev nD) : Dat τ (Elt F) Unit ℕ UU ℕ cfg0 c where
  A w := V₁ m c (Proc.devRef .tc (Pipeline.arrRef spec0 w))
  after w _ := match w with
    | 0 => wdkvA m c | 1 => wukA m c | 2 => wuvA m c
    | 3 => keys m c | 4 => vals m c | 5 => ropeQueries m c | 6 => ropeKeys m c | 7 => queries m c
  Φ t := if t.val = 0 then iprop(Pipeline.scopedRest spec0 c ∗ (∃ r, prngReg c r) ∗ StableHlo.held (c : Thread nD τ) hs0 (V₁ m c) ∗ enter0 m c)
    else iprop(Pipeline.scopedRest spec0 c ∗ (∃ r, prngReg c r) ∗ StableHlo.held (c : Thread nD τ) hs0 (V₂ m c) ∗ Pipeline.ownSems0 osem0 c ∗ leave0 c)
  q _ := fullShare
  owed t := if t.val = 0 then due1 c + due0 c else due1 c

/-- The second call's. -/
def dat1 (c : Dev nD) : Dat τ (Elt F) Unit ℕ UU ℕ cfg1 c where
  A w := V₂ m c (Proc.devRef .tc (Pipeline.arrRef spec1 w))
  after w _ := match w with
    | 0 => queries m c | 1 => ropeQueries m c | 2 => ropeKeys m c | 3 => keys m c | 4 => vals m c | 5 => result m c
  Φ t := if t.val = 0 then iprop(Pipeline.scopedRest spec1 c ∗ (∃ r, prngReg c r) ∗ StableHlo.held (c : Thread nD τ) hs1 (V₂ m c) ∗ enter1 m c)
    else iprop(Pipeline.scopedRest spec1 c ∗ (∃ r, prngReg c r) ∗ StableHlo.held (c : Thread nD τ) hs1 (V₃ m c) ∗ Pipeline.ownSems0 osem1 c ∗ leave1 c)
  q _ := fullShare
  owed t := if t.val = 0 then 0 + due1 c else 0

def pdats : (p : Fin 2) → (c : Dev nD) → Dat τ (Elt F) Unit ℕ UU ℕ (cfgs p) c
  | 0 => dat0 m
  | 1 => dat1 m

/-! ## The arrays when a call is done -/

theorem arr0_3 (c : Dev nD) : (dat0 m c).arrAt 3 cfg0.N = keys m c := by
  refine (dat0 m c).arrAt_eq_of_after_last 3 t0_0 (by decide +kernel) _ fun j => ?_
  blk_simp
  rfl
theorem arr0_4 (c : Dev nD) : (dat0 m c).arrAt 4 cfg0.N = vals m c := by
  refine (dat0 m c).arrAt_eq_of_after_last 4 t0_0 (by decide +kernel) _ fun j => ?_
  blk_simp
  rfl
theorem arr0_5 (c : Dev nD) : (dat0 m c).arrAt 5 cfg0.N = ropeQueries m c := by
  refine (dat0 m c).arrAt_eq_of_after_last 5 t0_0 (by decide +kernel) _ fun j => ?_
  blk_simp
  rfl
theorem arr0_6 (c : Dev nD) : (dat0 m c).arrAt 6 cfg0.N = ropeKeys m c := by
  refine (dat0 m c).arrAt_eq_of_after_last 6 t0_0 (by decide +kernel) _ fun j => ?_
  blk_simp
  rfl
theorem arr0_7 (c : Dev nD) : (dat0 m c).arrAt 7 cfg0.N = queries m c := by
  refine (dat0 m c).arrAt_eq_of_after_last 7 t0_0 (by decide +kernel) _ fun j => ?_
  blk_simp
  rfl
theorem arr1_5 (c : Dev nD) : (dat1 m c).arrAt 5 cfg1.N = result m c := by
  refine (dat1 m c).arrAt_eq_of_after_last 5 t1_0 (by decide +kernel) _ fun j => ?_
  blk_simp
  rfl

/-! ## The staged inputs when a call's body starts: each is the whole array -/

theorem idx0 : ∀ t : Fin cfg0.N, win0_0.index t = ![0, 0] ∧ win0_1.index t = ![0, 0] ∧ win0_2.index t = ![0, 0] :=
  (by decide +kernel : ∀ t : Fin grid0.N, _)
theorem idx1 : ∀ t : Fin cfg1.N, win1_0.index t = ![0, 0] ∧ win1_1.index t = ![0, 0] ∧ win1_2.index t = ![0, 0] ∧ win1_3.index t = ![0, 0] ∧ win1_4.index t = ![0, 0] :=
  (by decide +kernel : ∀ t : Fin grid1.N, _)

theorem before0_0 (c : Dev nD) (d) : (dat0 m c).before 0 t0_0 d = wdkvA m c := by
  unfold Dat.before; rw [if_pos (fetch0_0 t0_0)]
  funext j
  unfold Dat.fetched Pipeline.Window.fill
  rw [dif_pos (((cfg0.win 0).moved_iff _ j).mpr fun a => (j a).isLt)]
  blk_simp
  refine congrArg (wdkvA m c) (funext fun a => Fin.ext ?_)
  fin_cases a <;> blk_simp [idx0 t0_0] <;> rfl
theorem before0_1 (c : Dev nD) (d) : (dat0 m c).before 1 t0_0 d = wukA m c := by
  unfold Dat.before; rw [if_pos (fetch0_1 t0_0)]
  funext j
  unfold Dat.fetched Pipeline.Window.fill
  rw [dif_pos (((cfg0.win 1).moved_iff _ j).mpr fun a => (j a).isLt)]
  blk_simp
  refine congrArg (wukA m c) (funext fun a => Fin.ext ?_)
  fin_cases a <;> blk_simp [idx0 t0_0] <;> rfl
theorem before0_2 (c : Dev nD) (d) : (dat0 m c).before 2 t0_0 d = wuvA m c := by
  unfold Dat.before; rw [if_pos (fetch0_2 t0_0)]
  funext j
  unfold Dat.fetched Pipeline.Window.fill
  rw [dif_pos (((cfg0.win 2).moved_iff _ j).mpr fun a => (j a).isLt)]
  blk_simp
  refine congrArg (wuvA m c) (funext fun a => Fin.ext ?_)
  fin_cases a <;> blk_simp [idx0 t0_0] <;> rfl
theorem before1_0 (c : Dev nD) (d) : (dat1 m c).before 0 t1_0 d = queries m c := by
  unfold Dat.before; rw [if_pos (fetch1_0 t1_0)]
  funext j
  unfold Dat.fetched Pipeline.Window.fill
  rw [dif_pos (((cfg1.win 0).moved_iff _ j).mpr fun a => (j a).isLt)]
  blk_simp
  refine Eq.trans (congrArg ((dat1 m c).A 0) (funext fun a => Fin.ext ?_)) (congrFun (V₂_queries m c) j)
  fin_cases a <;> blk_simp [idx1 t1_0] <;> rfl
theorem before1_1 (c : Dev nD) (d) : (dat1 m c).before 1 t1_0 d = ropeQueries m c := by
  unfold Dat.before; rw [if_pos (fetch1_1 t1_0)]
  funext j
  unfold Dat.fetched Pipeline.Window.fill
  rw [dif_pos (((cfg1.win 1).moved_iff _ j).mpr fun a => (j a).isLt)]
  blk_simp
  refine Eq.trans (congrArg ((dat1 m c).A 1) (funext fun a => Fin.ext ?_)) (congrFun (V₂_ropeQueries m c) j)
  fin_cases a <;> blk_simp [idx1 t1_0] <;> rfl
theorem before1_2 (c : Dev nD) (d) : (dat1 m c).before 2 t1_0 d = ropeKeys m c := by
  unfold Dat.before; rw [if_pos (fetch1_2 t1_0)]
  funext j
  unfold Dat.fetched Pipeline.Window.fill
  rw [dif_pos (((cfg1.win 2).moved_iff _ j).mpr fun a => (j a).isLt)]
  blk_simp
  refine Eq.trans (congrArg ((dat1 m c).A 2) (funext fun a => Fin.ext ?_)) (congrFun (V₂_ropeKeys m c) j)
  fin_cases a <;> blk_simp [idx1 t1_0] <;> rfl
theorem before1_3 (c : Dev nD) (d) : (dat1 m c).before 3 t1_0 d = keys m c := by
  unfold Dat.before; rw [if_pos (fetch1_3 t1_0)]
  funext j
  unfold Dat.fetched Pipeline.Window.fill
  rw [dif_pos (((cfg1.win 3).moved_iff _ j).mpr fun a => (j a).isLt)]
  blk_simp
  refine Eq.trans (congrArg ((dat1 m c).A 3) (funext fun a => Fin.ext ?_)) (congrFun (V₂_keys m c) j)
  fin_cases a <;> blk_simp [idx1 t1_0] <;> rfl
theorem before1_4 (c : Dev nD) (d) : (dat1 m c).before 4 t1_0 d = vals m c := by
  unfold Dat.before; rw [if_pos (fetch1_4 t1_0)]
  funext j
  unfold Dat.fetched Pipeline.Window.fill
  rw [dif_pos (((cfg1.win 4).moved_iff _ j).mpr fun a => (j a).isLt)]
  blk_simp
  refine Eq.trans (congrArg ((dat1 m c).A 4) (funext fun a => Fin.ext ?_)) (congrFun (V₂_vals m c) j)
  fin_cases a <;> blk_simp [idx1 t1_0] <;> rfl

end Cert.Proof.Mla

end
-- ==== Proof.Regions.lean ====
/- The two calls as regions of the program: what each takes from the launch, opens, and leaves. -/
module

public import proofs.«01_k».proof.Proof.Data

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (K : GSem nD τ sig → ℕ) (c : Dev nD)

/-! ## Cells not yet opened -/

/-- A cell whose counter still lies with the scoped ones. -/
def asleep (n : DmaSem sig) : sProp 𝕄 :=
  iprop(cellInv ER (sched m) (K (dcell c n)) (dcell c n) ∗ openTok ER (dcell c n))
/-- One whose transfer the device itself starts, and one that its partner fills. -/
def mine (n : DmaSem sig) : sProp 𝕄 := iprop(asleep m K c n ∗ dutyTok ER (dcell c n) 0 ())
def theirs (n : DmaSem sig) : sProp 𝕄 := iprop(asleep m K c n ∗ cred (tallyAt (dcell c n) () (dmaAmt n)))

theorem wake_mine (n : DmaSem sig) : iprop(mine m K c n ∗ spent c (.dma n)) ⊢ (|={Set.univ}=> ready m K c n : sProp 𝕄) := by
  unfold mine asleep spent ready
  iintro ⟨⟨⟨#HI, Ho⟩, Ht⟩, Hv⟩
  imod (Rounds.cell_open ER (sched m) (g := dcell c n) (Set.mem_univ (K (dcell c n)))) $$ [Ho Hv] with ⟨Ha, Hr⟩
  · isplitr; · iexact HI
    isplitl [Ho] <;> iassumption
  imodintro
  isplitr; · iexact HI
  isplitl [Ht]; · iexact Ht
  isplitl [Ha] <;> iassumption
theorem wake_theirs (n : DmaSem sig) : iprop(theirs m K c n ∗ spent c (.dma n)) ⊢ (|={Set.univ}=> incoming m K c n : sProp 𝕄) := by
  unfold theirs asleep spent incoming flying
  iintro ⟨⟨⟨#HI, Ho⟩, Ht⟩, Hv⟩
  imod (Rounds.cell_open ER (sched m) (g := dcell c n) (Set.mem_univ (K (dcell c n)))) $$ [Ho Hv] with ⟨Ha, Hr⟩
  · isplitr; · iexact HI
    isplitl [Ho] <;> iassumption
  imodintro
  isplitr [Hr]
  · isplitr; · iexact HI
    isplitl [Ht] <;> iassumption
  iexact Hr

theorem pairAll {I : Type} [Fintype I] (Φ Ψ : I → sProp 𝕄) :
    iprop((bigSep Finset.univ Φ) ∗ bigSep Finset.univ Ψ) ⊢ bigSep Finset.univ fun i => iprop(Φ i ∗ Ψ i) := Entails.of_eq (BI.bigSep_sep _ _ _).symm
theorem unpairAll {I : Type} [Fintype I] (Φ Ψ : I → sProp 𝕄) :
    (bigSep Finset.univ fun i => iprop(Φ i ∗ Ψ i)) ⊢ iprop((bigSep Finset.univ Φ) ∗ bigSep Finset.univ Ψ) := Entails.of_eq (BI.bigSep_sep _ _ _)

theorem wake_all {I : Type} [Fintype I] {Φ Ψ X : I → sProp 𝕄} (h : ∀ i, iprop(Φ i ∗ Ψ i) ⊢ (|={Set.univ}=> X i : sProp 𝕄)) :
    iprop((bigSep Finset.univ Φ) ∗ bigSep Finset.univ Ψ) ⊢ (|={Set.univ}=> bigSep Finset.univ X : sProp 𝕄) :=
  (pairAll Φ Ψ).trans ((BI.bigSep_mono fun i _ => h i).trans (bigSep_fupd _ _))

/-- What the launch keeps for the first call, and for the second. -/
def kept0 : sProp 𝕄 :=
  iprop(barOut m K (pr c) bar0 ∗ barOwn m K c bar0 ∗ (bigSep Finset.univ fun k : Fin 8 => mine m K c (copyS k))
    ∗ (bigSep Finset.univ fun k : Fin 3 => theirs m K c (takeS k)) ∗ bigSep Finset.univ fun k : Fin 3 => outgoing m K (pr c) (takeS k))
def kept1 : sProp 𝕄 :=
  iprop(barOut m K (pr c) bar1 ∗ barOwn m K c bar1 ∗ mine m K c 25 ∗ (bigSep Finset.univ fun h : Fin 8 => mine m K c (sendS h))
    ∗ (bigSep Finset.univ fun h : Fin 8 => theirs m K c (recvS h)) ∗ bigSep Finset.univ fun h : Fin 8 => outgoing m K (pr c) (recvS h))

theorem three {M : Type} [URA M] (Φ : Fin 3 → sProp M) : bigSep Finset.univ Φ = iprop(Φ 0 ∗ Φ 1 ∗ Φ 2) :=
  bigSep_univ_eq_bigSepL [0, 1, 2] (by decide) (by decide) Φ

theorem own0 : (Pipeline.ownSems0 osem0 c : sProp 𝕄)
    = iprop((bigSep Finset.univ fun k : Fin 8 => spent c (.dma (copyS k))) ∗ bigSep Finset.univ fun k : Fin 3 => spent c (.dma (takeS k))) := by
  unfold Pipeline.ownSems0; exact BI.bigSep_univ_sum _
theorem own1 : (Pipeline.ownSems0 osem1 c : sProp 𝕄)
    = iprop(spent c (.dma 25) ∗ (bigSep Finset.univ fun h : Fin 8 => spent c (.dma (sendS h))) ∗ bigSep Finset.univ fun h : Fin 8 => spent c (.dma (recvS h))) := by
  unfold Pipeline.ownSems0
  rw [BI.bigSep_univ_sum, BI.bigSep_univ_sum, BI.bigSep_univ_of_subsingleton ()]
  rfl

theorem own0_spent : (spent0 c : sProp 𝕄) ⊢ iprop(leave0 c ∗ Pipeline.ownSems0 osem0 c) := by
  rw [own0, bigSep_W0, three]
  unfold spent0 leave0
  iintro ⟨Hb, H8, H9, H10, H11, H12, H13, H14, H15, H16, H17, H18⟩
  isplitl [Hb]; · iexact Hb
  isplitr [H16 H17 H18]
  · isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [H17]; · iexact H17
  iexact H18
theorem own1_spent : (spent1 c : sProp 𝕄) ⊢ iprop(leave1 c ∗ Pipeline.ownSems0 osem1 c) := by
  rw [own1]
  unfold spent1 leave1
  iintro ⟨Hb, H, Hs⟩
  ihave Hs := (unpairAll _ _) $$ Hs
  isplitl [Hb]; · iexact Hb
  isplitl [H] <;> iassumption

/-- The cells of the first call are opened as it is entered, -/
theorem open0 : iprop((∃ K, kept0 m K c) ∗ Pipeline.ownSems0 osem0 c ∗ levAts L lv) ⊢ (|={Set.univ}=> enter0 m c : sProp 𝕄) := by
  rw [own0]
  unfold kept0 enter0
  iintro ⟨⟨%K, Ho, Hb, Hm, Ht, Hg⟩, ⟨Hv, Hw⟩, HL⟩
  imod (wake_all fun k : Fin 8 => wake_mine m K c (copyS k)) $$ [Hm Hv] with Hm
  · isplitl [Hm] <;> iassumption
  imod (wake_all fun k : Fin 3 => wake_theirs m K c (takeS k)) $$ [Ht Hw] with Ht
  · isplitl [Ht] <;> iassumption
  imodintro
  ihave Hm := (Entails.of_eq (bigSep_W0 fun k : Fin 8 => ready m K c (copyS k))) $$ Hm
  ihave Ht := (Entails.of_eq (three fun k : Fin 3 => incoming m K c (takeS k))) $$ Ht
  ihave Hg := (Entails.of_eq (three fun k : Fin 3 => outgoing m K (pr c) (takeS k))) $$ Hg
  icases Hm with ⟨H8, H9, H10, H11, H12, H13, H14, H15⟩
  icases Ht with ⟨H16, H17, H18⟩
  isplitr [HL]
  · iexists K
    unfold cells0
    isplitl [Ho]; · iexact Ho
    isplitl [Hb]; · iexact Hb
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact Hg
  iexact HL
/-- and the second's as that is. -/
theorem open1 : iprop((∃ K, kept1 m K c) ∗ Pipeline.ownSems0 osem1 c ∗ levAts L lv) ⊢ (|={Set.univ}=> enter1 m c : sProp 𝕄) := by
  rw [own1]
  unfold kept1 enter1
  iintro ⟨⟨%K, Ho, Hb, H25, Hm, Ht, Hg⟩, ⟨Hx, Hv, Hw⟩, HL⟩
  imod (wake_mine m K c 25) $$ [H25 Hx] with H25
  · isplitl [H25] <;> iassumption
  imod (wake_all fun h : Fin 8 => wake_mine m K c (sendS h)) $$ [Hm Hv] with Hm
  · isplitl [Hm] <;> iassumption
  imod (wake_all fun h : Fin 8 => wake_theirs m K c (recvS h)) $$ [Ht Hw] with Ht
  · isplitl [Ht] <;> iassumption
  imodintro
  isplitr [HL]
  · iexists K
    unfold cells1
    isplitl [Ho]; · iexact Ho
    isplitl [Hb]; · iexact Hb
    isplitl [H25]; · iexact H25
    isplitl [Hm]; · iexact Hm
    isplitl [Ht] <;> iassumption
  iexact HL

/-! ## The bodies -/

theorem scr_eq (b : Ref sig .tc) :
    (scr c b : sProp 𝕄) = iprop(∃ f : Buf (Elt F) ((c : Thread nD τ).loc b), ((c : Thread nD τ).loc b) ↦{fullShare} f) := by
  unfold scr; congr 1; funext f; exact part_whole c fullShare b f

/-- The buffers a call does not touch. -/
def other0 : sProp 𝕄 :=
  iprop(scr c cc1_stg0_0 ∗ scr c cc1_stg1_0 ∗ scr c cc1_stg2_0 ∗ scr c cc1_stg3_0 ∗ scr c cc1_stg4_0 ∗ scr c cc1_stg5_0
    ∗ scr c cc1_scratch0 ∗ scr c cc1_scratch1 ∗ scr c cc1_scratch2 ∗ scr c cc1_scratch3)

theorem scoped0 : (Pipeline.scopedRest spec0 c : sProp 𝕄) = iprop(scratch0 c ∗ other0 c) := by
  rw [scopedRest0_eq]
  unfold scratch0 other0
  simp only [scr_eq]
  refine eq_of_both ?_ ?_
  · iintro ⟨H0, H1, H2, H3, H4, H5, H6, H7, H8, H9, Hr⟩
    isplitr [Hr]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8] <;> iassumption
    iexact Hr
  · iintro ⟨⟨H0, H1, H2, H3, H4, H5, H6, H7, H8, H9⟩, Hr⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption

def other1 : sProp 𝕄 :=
  iprop(scr c cc0_stg0_0 ∗ scr c cc0_stg1_0 ∗ scr c cc0_stg2_0 ∗ scr c cc0_stg3_0 ∗ scr c cc0_stg4_0 ∗ scr c cc0_stg5_0 ∗ scr c cc0_stg6_0
    ∗ scr c cc0_stg7_0 ∗ scratch0 c)

theorem scoped1 : (Pipeline.scopedRest spec1 c : sProp 𝕄) = iprop(scratch1 c ∗ other1 c) := by
  rw [scopedRest1_eq]
  unfold scratch1 other1 scratch0
  simp only [scr_eq]
  refine eq_of_both ?_ ?_
  · iintro ⟨G0, G1, G2, G3, G4, G5, G6, G7, H0, H1, H2, H3, H4, H5, H6, H7, H8, H9, Hr⟩
    isplitl [Hr]; · iexact Hr
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  · iintro ⟨Hr, G0, G1, G2, G3, G4, G5, G6, G7, H0, H1, H2, H3, H4, H5, H6, H7, H8, H9⟩
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption

/-- The arrays a call reads where they are, out of the held ones. -/
theorem held_hs0 (V : Valuation τ sig (Elt F)) :
    (StableHlo.held (c : Thread nD τ) hs0 V : sProp 𝕄)
      = iprop(part xM c fullShare (V main_v1) ∗ part wqM c fullShare (V main_arg4) ∗ part wqrM c fullShare (V main_arg5) ∗ part wkrM c fullShare (V main_arg6)) := by
  simp only [part_whole]
  unfold StableHlo.held
  exact bigSep_eq_bigSepL_of_eq [Proc.devRef .tc main_v1, Proc.devRef .tc main_arg4, Proc.devRef .tc main_arg5, Proc.devRef .tc main_arg6] (by decide) (by decide) _
theorem held_hs1 (V : Valuation τ sig (Elt F)) :
    (StableHlo.held (c : Thread nD τ) hs1 V : sProp 𝕄) = part woM c fullShare (V main_arg7) := by
  simp only [part_whole]
  unfold StableHlo.held
  exact BI.bigSep_singleton

theorem owesAt_intro {cfg : Pipeline.Cfg sig Λ₀} (dat : Dat τ (Elt F) Unit ℕ UU ℕ cfg c) (t : Fin (cfg.N + 1))
    (O : CellTallies nD τ sig Unit) (h0 : dat.owed t = O) (hr : dat.recorded t = Set.univ) : owe c O ⊢ (dat.owesAt () t : sProp 𝕄) := by
  unfold owe Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} (dat : Dat τ (Elt F) Unit ℕ UU ℕ cfg c) (t : Fin (cfg.N + 1))
    (O : CellTallies nD τ sig Unit) (h0 : dat.owed t = O) : (dat.owesAt () t : sProp 𝕄) ⊢ owe c O := by
  unfold owe Dat.owesAt Pipeline.owesWithin; rw [h0]
  iintro ⟨%W, -, HO⟩; iexists W; iexact HO

theorem stage_part (b : Ref sig .tc) (X : b.ty.Contents (Elt F)) :
    (owns (c : Thread nD τ) (Memref.whole b) fullShare X : sProp 𝕄) = part (Memref.whole b) c fullShare X := by
  rw [part_whole]; exact owns_whole (c : Thread nD τ) b fullShare X
theorem stage_scr (b : Ref sig .tc) (X : b.ty.Contents (Elt F)) :
    (owns (c : Thread nD τ) (Memref.whole b) fullShare X : sProp 𝕄) ⊢ scr c b := by
  rw [stage_part]; unfold scr; iintro H; iexists X; iexact H

/-- The first call's body at its one point. -/
theorem obligation0 : BodyObligation (dat0 m c) defs₀ 𝒱₀ () Set.univ := fun t => by
  obtain rfl := fin_N0 t
  rw [bigSep_W0, bigSep_W0]
  rw [show (dat0 m c).Φ t0_0.castSucc = iprop(Pipeline.scopedRest spec0 c ∗ (∃ r, prngReg c r) ∗ StableHlo.held (c : Thread nD τ) hs0 (V₁ m c) ∗ enter0 m c) from rfl,
    show (dat0 m c).Φ t0_0.succ = iprop(Pipeline.scopedRest spec0 c ∗ (∃ r, prngReg c r) ∗ StableHlo.held (c : Thread nD τ) hs0 (V₂ m c) ∗ Pipeline.ownSems0 osem0 c ∗ leave0 c) from rfl,
    scoped0, held_hs0, held_hs0, V₂_of m c main_v1 (by decide), V₂_of m c main_arg4 (by decide), V₂_of m c main_arg5 (by decide), V₂_of m c main_arg6 (by decide)]
  iintro ⟨⟨⟨Hs, Ho⟩, Hp, ⟨Hx, Hq, Hqr, Hkr⟩, He⟩, HO, ⟨%d0, W0⟩, ⟨%d1, W1⟩, ⟨%d2, W2⟩, ⟨%d3, W3⟩, ⟨%d4, W4⟩, ⟨%d5, W5⟩, ⟨%d6, W6⟩, ⟨%d7, W7⟩⟩
  ihave HO := (owesAt_elim c (dat0 m c) _ (due1 c + due0 c) rfl) $$ HO
  ihave W0 := (Entails.of_eq ((congrArg _ (before0_0 m c d0)).trans (stage_part c cc0_stg0_0 (wdkvA m c)))) $$ W0
  ihave W1 := (Entails.of_eq ((congrArg _ (before0_1 m c d1)).trans (stage_part c cc0_stg1_0 (wukA m c)))) $$ W1
  ihave W2 := (Entails.of_eq ((congrArg _ (before0_2 m c d2)).trans (stage_part c cc0_stg2_0 (wuvA m c)))) $$ W2
  ihave W3 := (stage_scr c cc0_stg3_0 _) $$ W3
  ihave W4 := (stage_scr c cc0_stg4_0 _) $$ W4
  ihave W5 := (stage_scr c cc0_stg5_0 _) $$ W5
  ihave W6 := (stage_scr c cc0_stg6_0 _) $$ W6
  ihave W7 := (stage_scr c cc0_stg7_0 _) $$ W7
  unfold enter0
  icases He with ⟨⟨%K, Hc⟩, HL⟩
  iapply (Entails.of_eq (run_eq c (body0 (F := F))))
  iapply (run0 m K c _)
  isplitr [Ho Hp]
  · unfold pre0 reads0
    isplitl [Hc]; · iexact Hc
    isplitl [HL]; · iexact HL
    isplitl [HO]; · iexact HO
    isplitl [Hx Hq Hqr Hkr W0 W1 W2]
    · isplitl [Hx]; · iexact Hx
      isplitl [Hq]; · iexact Hq
      isplitl [Hqr]; · iexact Hqr
      isplitl [Hkr]; · iexact Hkr
      isplitl [W0]; · iexact W0
      isplitl [W1] <;> iassumption
    isplitl [Hs]; · iexact Hs
    isplitl [W3]; · iexact W3
    isplitl [W4]; · iexact W4
    isplitl [W5]; · iexact W5
    isplitl [W6] <;> iassumption
  unfold post0 reads0
  iintro ⟨Hd, HO, ⟨Hx, Hq, Hqr, Hkr, W0, W1, W2⟩, Hs, W3, W4, W5, W6, W7⟩
  ihave Hd := (own0_spent c) $$ Hd
  icases Hd with ⟨Hb, Hd⟩
  isplitl [Hs Ho Hp Hx Hq Hqr Hkr Hb Hd]
  · isplitl [Hs Ho]; · isplitl [Hs] <;> iassumption
    isplitl [Hp]; · iexact Hp
    isplitl [Hx Hq Hqr Hkr]
    · isplitl [Hx]; · iexact Hx
      isplitl [Hq]; · iexact Hq
      isplitl [Hqr] <;> iassumption
    isplitl [Hd] <;> iassumption
  isplitl [HO]; · iapply (owesAt_intro c (dat0 m c) t0_0.succ (due1 c) rfl rfl); iexact HO
  isplitl [W0]; · iapply (Entails.of_eq (stage_part c cc0_stg0_0 (wdkvA m c)).symm); iexact W0
  isplitl [W1]; · iapply (Entails.of_eq (stage_part c cc0_stg1_0 (wukA m c)).symm); iexact W1
  isplitl [W2]; · iapply (Entails.of_eq (stage_part c cc0_stg2_0 (wuvA m c)).symm); iexact W2
  isplitl [W3]; · iapply (Entails.of_eq (stage_part c cc0_stg3_0 (keys m c)).symm); iexact W3
  isplitl [W4]; · iapply (Entails.of_eq (stage_part c cc0_stg4_0 (vals m c)).symm); iexact W4
  isplitl [W5]; · iapply (Entails.of_eq (stage_part c cc0_stg5_0 (ropeQueries m c)).symm); iexact W5
  isplitl [W6]; · iapply (Entails.of_eq (stage_part c cc0_stg6_0 (ropeKeys m c)).symm); iexact W6
  iapply (Entails.of_eq (stage_part c cc0_stg7_0 (queries m c)).symm); iexact W7

/-- The second call's. -/
theorem obligation1 : BodyObligation (dat1 m c) defs₀ 𝒱₀ () Set.univ := fun t => by
  obtain rfl := fin_N1 t
  rw [bigSep_W1, bigSep_W1]
  rw [show (dat1 m c).Φ t1_0.castSucc = iprop(Pipeline.scopedRest spec1 c ∗ (∃ r, prngReg c r) ∗ StableHlo.held (c : Thread nD τ) hs1 (V₂ m c) ∗ enter1 m c) from rfl,
    show (dat1 m c).Φ t1_0.succ = iprop(Pipeline.scopedRest spec1 c ∗ (∃ r, prngReg c r) ∗ StableHlo.held (c : Thread nD τ) hs1 (V₃ m c) ∗ Pipeline.ownSems0 osem1 c ∗ leave1 c) from rfl,
    scoped1, held_hs1, held_hs1, V₃_of m c main_arg7 (by decide), V₂_of m c main_arg7 (by decide)]
  iintro ⟨⟨⟨Hs, Ho⟩, Hp, Hw, He⟩, HO, ⟨%d0, W0⟩, ⟨%d1, W1⟩, ⟨%d2, W2⟩, ⟨%d3, W3⟩, ⟨%d4, W4⟩, ⟨%d5, W5⟩⟩
  ihave HO := (owesAt_elim c (dat1 m c) _ (0 + due1 c) rfl) $$ HO
  ihave W0 := (Entails.of_eq ((congrArg _ (before1_0 m c d0)).trans (stage_part c cc1_stg0_0 (queries m c)))) $$ W0
  ihave W1 := (Entails.of_eq ((congrArg _ (before1_1 m c d1)).trans (stage_part c cc1_stg1_0 (ropeQueries m c)))) $$ W1
  ihave W2 := (Entails.of_eq ((congrArg _ (before1_2 m c d2)).trans (stage_part c cc1_stg2_0 (ropeKeys m c)))) $$ W2
  ihave W3 := (Entails.of_eq ((congrArg _ (before1_3 m c d3)).trans (stage_part c cc1_stg3_0 (keys m c)))) $$ W3
  ihave W4 := (Entails.of_eq ((congrArg _ (before1_4 m c d4)).trans (stage_part c cc1_stg4_0 (vals m c)))) $$ W4
  ihave W5 := (stage_scr c cc1_stg5_0 _) $$ W5
  unfold enter1
  icases He with ⟨⟨%K, Hc⟩, HL⟩
  iapply (Entails.of_eq (run_eq c (body1 (F := F))))
  iapply (run1 m K c _)
  isplitr [Ho Hp]
  · unfold pre1 reads1 four
    isplitl [Hc]; · iexact Hc
    isplitl [HL]; · iexact HL
    isplitl [HO]; · iexact HO
    isplitr [Hs W5]
    · isplitl [Hw]; · iexact Hw
      isplitr [W2]
      · isplitl [W0]; · iexact W0
        isplitl [W3]; · iexact W3
        isplitl [W1] <;> iassumption
      iexact W2
    isplitl [Hs] <;> iassumption
  unfold post1 reads1 four
  iintro ⟨Hd, HO, ⟨Hw, ⟨W0, W3, W1, W4⟩, W2⟩, Hs, W5⟩
  ihave Hd := (own1_spent c) $$ Hd
  icases Hd with ⟨Hb, Hd⟩
  isplitl [Hs Ho Hp Hw Hb Hd]
  · isplitl [Hs Ho]; · isplitl [Hs] <;> iassumption
    isplitl [Hp]; · iexact Hp
    isplitl [Hw]; · iexact Hw
    isplitl [Hd] <;> iassumption
  isplitl [HO]; · iapply (owesAt_intro c (dat1 m c) t1_0.succ 0 rfl rfl); iexact HO
  isplitl [W0]; · iapply (Entails.of_eq (stage_part c cc1_stg0_0 (queries m c)).symm); iexact W0
  isplitl [W1]; · iapply (Entails.of_eq (stage_part c cc1_stg1_0 (ropeQueries m c)).symm); iexact W1
  isplitl [W2]; · iapply (Entails.of_eq (stage_part c cc1_stg2_0 (ropeKeys m c)).symm); iexact W2
  isplitl [W3]; · iapply (Entails.of_eq (stage_part c cc1_stg3_0 (keys m c)).symm); iexact W3
  isplitl [W4]; · iapply (Entails.of_eq (stage_part c cc1_stg4_0 (vals m c)).symm); iexact W4
  iapply (Entails.of_eq (stage_part c cc1_stg5_0 (result m c)).symm); iexact W5

end Cert.Proof.Mla

end
-- ==== Proof.Segments.lean ====
/- The program as its host stretch and its two regions, with what a device holds between them. -/
module

public import proofs.«01_k».proof.Proof.Regions

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ)

/-! ## What a region leaves in its arrays -/

theorem arr_input0 (c : Dev nD) (w : Fin 8) (h : (cfg0.win w).flush t0_0 = false) : (dat0 m c).arrAt w cfg0.N = V₁ m c (Proc.devRef .tc (Pipeline.arrRef spec0 w)) := by
  show (dat0 m c).arrAt w 1 = _
  unfold Dat.arrAt
  dsimp only
  rw [dif_pos (by decide : 0 < cfg0.N), if_neg (by rw [show (⟨0, _⟩ : Fin cfg0.N) = t0_0 from rfl, h]; decide)]
  rfl
theorem arr_input1 (c : Dev nD) (w : Fin 6) (h : (cfg1.win w).flush t1_0 = false) : (dat1 m c).arrAt w cfg1.N = V₂ m c (Proc.devRef .tc (Pipeline.arrRef spec1 w)) := by
  show (dat1 m c).arrAt w 1 = _
  unfold Dat.arrAt
  dsimp only
  rw [dif_pos (by decide : 0 < cfg1.N), if_neg (by rw [show (⟨0, _⟩ : Fin cfg1.N) = t1_0 from rfl, h]; decide)]
  rfl

theorem arrays0_end (c : Dev nD) (w : Fin 8) : (dat0 m c).arrAt w cfg0.N = V₂ m c (Proc.devRef .tc (Pipeline.arrRef spec0 w)) := by
  match w with
  | 0 => exact (arr_input0 m c 0 (by decide +kernel)).trans (V₂_of m c main_arg1 (by decide)).symm
  | 1 => exact (arr_input0 m c 1 (by decide +kernel)).trans (V₂_of m c main_arg2 (by decide)).symm
  | 2 => exact (arr_input0 m c 2 (by decide +kernel)).trans (V₂_of m c main_arg3 (by decide)).symm
  | 3 => exact (arr0_3 m c).trans (V₂_keys m c).symm
  | 4 => exact (arr0_4 m c).trans (V₂_vals m c).symm
  | 5 => exact (arr0_5 m c).trans (V₂_ropeQueries m c).symm
  | 6 => exact (arr0_6 m c).trans (V₂_ropeKeys m c).symm
  | 7 => exact (arr0_7 m c).trans (V₂_queries m c).symm
theorem arrays1_end (c : Dev nD) (w : Fin 6) : (dat1 m c).arrAt w cfg1.N = V₃ m c (Proc.devRef .tc (Pipeline.arrRef spec1 w)) := by
  match w with
  | 0 => exact (arr_input1 m c 0 (by decide +kernel)).trans (V₃_of m c main_v2_4 (by decide)).symm
  | 1 => exact (arr_input1 m c 1 (by decide +kernel)).trans (V₃_of m c main_v2_2 (by decide)).symm
  | 2 => exact (arr_input1 m c 2 (by decide +kernel)).trans (V₃_of m c main_v2_3 (by decide)).symm
  | 3 => exact (arr_input1 m c 3 (by decide +kernel)).trans (V₃_of m c main_v2_0 (by decide)).symm
  | 4 => exact (arr_input1 m c 4 (by decide +kernel)).trans (V₃_of m c main_v2_1 (by decide)).symm
  | 5 => exact (arr1_5 m c).trans (V₃_result m c).symm

/-! ## The regions -/

/-- A device's other arrays while a call runs. -/
abbrev sr0 : Finset (DevRef τ sig) := Pipeline.ucRefs τ sig \ Pipeline.arrRefs (τ := τ) spec0
abbrev sr1 : Finset (DevRef τ sig) := Pipeline.ucRefs τ sig \ Pipeline.arrRefs (τ := τ) spec1

theorem held_split0 (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec0) V ∗ StableHlo.held (c.tc : Thread nD τ) sr0 V) :=
  StableHlo.held_sub_split (c.tc : Thread nD τ) (by decide) V
theorem held_split1 (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec1) V ∗ StableHlo.held (c.tc : Thread nD τ) sr1 V) :=
  StableHlo.held_sub_split (c.tc : Thread nD τ) (by decide) V

theorem rest0 (c : Dev nD) : ∀ b ∈ sr0 \ hs0, V₂ m c b = V₁ m c b := fun b hb => by
  obtain ⟨r, hr, rfl⟩ : ∃ r : Ref sig .tc, r ∉ [main_v2_0, main_v2_1, main_v2_2, main_v2_3, main_v2_4] ∧ Proc.devRef .tc r = b := by
    revert b; decide
  exact V₂_of m c r hr
theorem rest1 (c : Dev nD) : ∀ b ∈ sr1 \ hs1, V₃ m c b = V₂ m c b := fun b hb => by
  obtain ⟨r, hr, rfl⟩ : ∃ r : Ref sig .tc, r ≠ main_v3 ∧ Proc.devRef .tc r = b := by
    revert b; decide
  exact V₃_of m c r hr

theorem above_due0 (c : Dev nD) : Above 0 (due0 c) := by
  unfold due0
  exact (((Above.tally _ _ _ (by decide)).add (Above.tally _ _ _ (by decide))).add (Above.tally _ _ _ (by decide))).add (Above.tally _ _ _ (by decide))

theorem Above.cut {O : CellTallies nD τ sig Unit} (h : Above 0 O) (g : GSem nD τ sig) (i : Unit) (hg : 0 < O g i) : i ∈ L g ∧ 0 < lv g i :=
  ⟨by unfold L; rw [if_pos (h g i hg).1]; exact Finset.mem_singleton_self _, (h g i hg).2⟩

theorem owed0_above (c : Dev nD) (t : Fin (cfg0.N + 1)) : Above 0 ((dat0 m c).owed t) := by
  show Above 0 (if t.val = 0 then due1 c + due0 c else due1 c)
  split
  · exact ((above_due1 c).mono (by decide)).add (above_due0 c)
  · exact (above_due1 c).mono (by decide)
theorem owed1_above (c : Dev nD) (t : Fin (cfg1.N + 1)) : Above 0 ((dat1 m c).owed t) := by
  show Above 0 (if t.val = 0 then 0 + due1 c else 0)
  split
  · exact (Above.zero 0).add ((above_due1 c).mono (by decide))
  · exact Above.zero 0

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

local notation "ℝ𝕊" => Pipeline.RegionSeg (pcfgs (F := F)) adm (pdats m) () defs₀ 𝒱₀ L lv

theorem stage_level0 : ∀ (w : Fin 8) (s : Fin (cfg0.win w).nbuf), lvl (.dma ((cfg0.win w).sem s)) ≤ 0 := by decide
theorem stage_level1 : ∀ (w : Fin 6) (s : Fin (cfg1.win w).nbuf), lvl (.dma ((cfg1.win w).sem s)) ≤ 0 := by decide
theorem share0 (c : Dev nD) (w : Fin 8) : (dat0 m c).share w = fullShare := by unfold Dat.share; split <;> rfl
theorem share1 (c : Dev nD) (w : Fin 6) : (dat1 m c).share w = fullShare := by unfold Dat.share; split <;> rfl

set_option backward.isDefEq.respectTransparency.types false in
/-- The first call. What the launch keeps for the second passes it by. -/
def reg0 : ℝ𝕊 0 :=
  Pipeline.RegionSeg.ofTalk (pcfgs (F := F)) adm (pdats m) () defs₀ 𝒱₀ L lv 0 osem0 (by decide : Pipeline.OwnSemFacts spec0 osem0)
    hs0 sr0 (by decide) kit0 rfl (fun c => (obligation0 m c).loose)
    due1 due0 (fun _ => rfl) (fun _ => rfl) (fun _ => rfl) (share0 m)
    (V₁ m) (V₂ m) (rest0 m)
    (fun c => iprop(∃ K, kept0 m K c)) leave0 (enter0 m) leave0 (open0 m)
    (fun c => by exact .rfl) (fun c => by exact .rfl)
    (fun c => by iintro H; imodintro; iexact H)
    (fun _ => 0)
    ⟨fun c w s => by rw [L_tc]; exact Finset.mem_singleton_self _, fun _ w s => stage_level0 w s, fun c t g i h => (owed0_above m c t).cut g i h⟩
    (fun c => iprop(∃ K, kept1 m K c))
    (fun _ _ => rfl) (arrays0_end m)

set_option backward.isDefEq.respectTransparency.types false in
/-- The second call. -/
def reg1 : ℝ𝕊 1 :=
  Pipeline.RegionSeg.ofTalk (pcfgs (F := F)) adm (pdats m) () defs₀ 𝒱₀ L lv 1 osem1 (by decide : Pipeline.OwnSemFacts spec1 osem1)
    hs1 sr1 (by decide) kit1 rfl (fun c => (obligation1 m c).loose)
    (fun _ => 0) due1 (fun _ => rfl) (fun _ => rfl) (fun _ => rfl) (share1 m)
    (V₂ m) (V₃ m) (rest1 m)
    (fun c => iprop(∃ K, kept1 m K c)) leave1 (enter1 m) leave1 (open1 m)
    (fun c => by exact .rfl) (fun c => by exact .rfl)
    (fun c => by iintro H; imodintro; iexact H)
    (fun _ => 0)
    ⟨fun c w s => by rw [L_tc]; exact Finset.mem_singleton_self _, fun _ w s => stage_level1 w s, fun c t g i h => (owed1_above m c t).cut g i h⟩
    leave0
    (fun _ _ => rfl) (arrays1_end m)

/-! ## The thread's state between the items -/

/-- What a device keeps beside its arrays up to the first call. -/
def beside (c : Dev nD) : sProp 𝕄 :=
  iprop((∃ K, kept0 m K c) ∗ (∃ K, kept1 m K c) ∗ (∃ r, prngReg c r) ∗ owe c (due1 c + due0 c))

abbrev host0 : Pipeline.HostSeg (Name := ℕ) (U := UU) (pcfgs (F := F)) defs₀ 𝒱₀ L lv := Gen.seg0 m 𝒱₀ L lv fun _ => beside m

theorem reg0_pre (c : Dev nD) : (host0 m).post c ⊢ (reg0 m).pre c := by
  show iprop(StableHlo.held (c.tc : Thread nD τ) (Pipeline.ucRefs τ sig) (V₁ m c) ∗ beside m c)
    ⊢ iprop(StableHlo.held (c.tc : Thread nD τ) (Pipeline.arrRefs (τ := τ) spec0) (V₁ m c) ∗ (∃ r, prngReg c r)
      ∗ (StableHlo.held (c.tc : Thread nD τ) sr0 (V₁ m c) ∗ (∃ K, kept1 m K c)) ∗ (∃ K, kept0 m K c) ∗ ∃ Wd, owes (c : Thread nD τ) (due1 c + due0 c) Wd)
  rw [held_split0]
  unfold beside owe
  iintro ⟨⟨Ha, Hs⟩, H0, H1, Hp, HO⟩
  isplitl [Ha]; · iexact Ha
  isplitl [Hp]; · iexact Hp
  isplitl [Hs H1]; · isplitl [Hs] <;> iassumption
  isplitl [H0] <;> iassumption

theorem reg1_pre (c : Dev nD) : (reg0 m).post c ⊢ (reg1 m).pre c := by
  show iprop(StableHlo.held (c.tc : Thread nD τ) (Pipeline.arrRefs (τ := τ) spec0) (V₂ m c) ∗ (∃ r, prngReg c r)
      ∗ (StableHlo.held (c.tc : Thread nD τ) sr0 (V₂ m c) ∗ (∃ K, kept1 m K c)) ∗ leave0 c ∗ ∃ Wd, owes (c : Thread nD τ) (due1 c) Wd)
    ⊢ iprop(StableHlo.held (c.tc : Thread nD τ) (Pipeline.arrRefs (τ := τ) spec1) (V₂ m c) ∗ (∃ r, prngReg c r)
      ∗ (StableHlo.held (c.tc : Thread nD τ) sr1 (V₂ m c) ∗ leave0 c) ∗ (∃ K, kept1 m K c) ∗ ∃ Wd, owes (c : Thread nD τ) (0 + due1 c) Wd)
  rw [zero_add]
  iintro ⟨Ha, Hp, ⟨Hs, H1⟩, Hl, HO⟩
  ihave Hh := (Entails.of_eq (held_split0 c (V₂ m c)).symm) $$ [Ha Hs]
  · isplitl [Ha] <;> iassumption
  ihave Hh := (Entails.of_eq (held_split1 c (V₂ m c))) $$ Hh
  icases Hh with ⟨Ha, Hs⟩
  isplitl [Ha]; · iexact Ha
  isplitl [Hp]; · iexact Hp
  isplitl [Hs Hl]; · isplitl [Hs] <;> iassumption
  isplitl [H1] <;> iassumption

theorem reg1_post (c : Dev nD) : (reg1 m).post c
    ⊢ iprop((StableHlo.held (c.tc : Thread nD τ) (Pipeline.ucRefs τ sig) (V₃ m c) ∗ leave0 c ∗ leave1 c) ∗ ∃ W, owes (c : Thread nD τ) (0 : CellTallies nD τ sig Unit) W) := by
  show iprop(StableHlo.held (c.tc : Thread nD τ) (Pipeline.arrRefs (τ := τ) spec1) (V₃ m c) ∗ (∃ r, prngReg c r)
      ∗ (StableHlo.held (c.tc : Thread nD τ) sr1 (V₃ m c) ∗ leave0 c) ∗ leave1 c ∗ ∃ Wd, owes (c : Thread nD τ) (0 : CellTallies nD τ sig Unit) Wd) ⊢ _
  rw [held_split1]
  iintro ⟨Ha, -, ⟨Hs, H0⟩, H1, HO⟩
  isplitr [HO]
  · isplitl [Ha Hs]; · isplitl [Ha] <;> iassumption
    isplitl [H0] <;> iassumption
  iexact HO

/-- The program's items on a device. -/
def items : List (Pipeline.Seg (pcfgs (F := F)) adm (pdats m) () defs₀ 𝒱₀ L lv) := [.host (host0 m), .region (reg0 m), .region (reg1 m)]

theorem main_items (c : Dev nD) : main (F := F) c = Pipeline.Seg.run (items m) :=
  main_segs adm (pdats m) () 𝒱₀ L lv (host0 m) (reg0 m) (reg1 m) rfl c

end Cert.Proof.Mla

end
-- ==== Proof.Launch.lean ====
/- The launch: the cells made, the tokens dealt, and the credit each device starts from. -/
module

public import proofs.«01_k».proof.Proof.Segments

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

abbrev Scoped : Type := (Fin 8 ⊕ Fin 3) ⊕ (Unit ⊕ Fin 8 ⊕ Fin 8)
abbrev barSem : Fin 2 → SemLoc sig := fun | 0 => .reg bar0 | 1 => .reg bar1
abbrev scSem : Scoped → SemLoc sig := Sum.elim osem0 osem1
abbrev tokSem : Fin 2 ⊕ Scoped → SemLoc sig := Sum.elim barSem scSem
theorem tokSem_inj : Function.Injective tokSem := by decide +kernel
theorem barSem_inj : Function.Injective barSem := fun a b h => Sum.inl_injective (tokSem_inj (a₁ := .inl a) (a₂ := .inl b) h)
theorem scSem_inj : Function.Injective scSem := fun a b h => Sum.inr_injective (tokSem_inj (a₁ := .inr a) (a₂ := .inr b) h)

/-- A family of semaphores on every device, as cells. -/
def cellsOf {I : Type} (f : I → SemLoc sig) (hf : Function.Injective f) : Dev nD × I ↪ GSem nD τ sig :=
  ⟨fun x => ((x.1 : Thread nD τ), f x.2), fun _ _ h => Prod.ext (congrArg (fun g : GSem nD τ sig => g.1.1) h) (hf (congrArg Prod.snd h))⟩
abbrev barCells : Finset (GSem nD τ sig) := Finset.univ.map (cellsOf barSem barSem_inj)
abbrev scCells : Finset (GSem nD τ sig) := Finset.univ.map (cellsOf scSem scSem_inj)
/-- Every cell's one token. -/
def talkToks : Finset (GSem nD τ sig × ℕ × Unit) :=
  Finset.univ.map ⟨fun x : Dev nD × (Fin 2 ⊕ Scoped) => (cellsOf tokSem tokSem_inj x, 0, ()), fun _ _ h =>
    (cellsOf tokSem tokSem_inj).injective (congrArg Prod.fst h)⟩

theorem disjoint_cells : Disjoint barCells scCells := by
  rw [Finset.disjoint_left]
  rintro g h₁ h₂
  obtain ⟨x, -, rfl⟩ := Finset.mem_map.mp h₁
  obtain ⟨y, -, h⟩ := Finset.mem_map.mp h₂
  exact Sum.inr_ne_inl (tokSem_inj (a₁ := .inr y.2) (a₂ := .inl x.2) (congrArg Prod.snd h))
theorem bar_mem (c : Dev nD) (k : Fin 2) : ((c : Thread nD τ), barSem k) ∈ barCells := Finset.mem_map_of_mem (cellsOf barSem barSem_inj) (Finset.mem_univ (c, k))
theorem sc_mem (c : Dev nD) (k : Scoped) : ((c : Thread nD τ), scSem k) ∈ scCells := Finset.mem_map_of_mem (cellsOf scSem scSem_inj) (Finset.mem_univ (c, k))

/-- The ghost state the program is launched with. -/
def u₀ : UU :=
  (initOf (Pipeline.cells (Pipeline.pin (pcfgs (F := F)) adm) cellOf_inj) (Pipeline.launchToks (Pipeline.pin (pcfgs (F := F)) adm) cellOf_inj),
    launchOf barCells scCells talkToks)
/-- The protocol's share of it, kept whole on one device until it is dealt. -/
def G (c : Dev nD) : sProp 𝕄 := if c = 0 then BI.own (ER (launchOf barCells scCells talkToks)) else iprop(emp)
theorem G_all : (bigSep Finset.univ (G (F := F)) : sProp 𝕄) = BI.own (ER (launchOf barCells scCells talkToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-! ## What every device may consult, and what it alone holds -/

def records (κ : GSem nD τ sig → ℕ) : sProp 𝕄 :=
  iprop((bigSep (barCells ∪ scCells) fun g => cellInv ER (sched m) (κ g) g) ∗ bigSep barCells fun g => reached ER g 0)
instance records_persistent (κ : GSem nD τ sig → ℕ) : BI.Persistent (records m κ) := by unfold records; infer_instance

variable (κ : GSem nD τ sig → ℕ)

theorem inv_bar (c : Dev nD) (k : Fin 2) : records m κ ⊢ cellInv ER (sched m) (κ ((c : Thread nD τ), barSem k)) ((c : Thread nD τ), barSem k) := by
  unfold records
  iintro ⟨H, -⟩
  iapply (show (bigSep (barCells ∪ scCells) fun g => (cellInv ER (sched m) (κ g) g : sProp 𝕄)) ⊢ cellInv ER (sched m) (κ ((c : Thread nD τ), barSem k)) ((c : Thread nD τ), barSem k) from bigSep_elim (Finset.mem_union_left _ (bar_mem c k))); iexact H
theorem inv_sc (c : Dev nD) (k : Scoped) : records m κ ⊢ cellInv ER (sched m) (κ ((c : Thread nD τ), scSem k)) ((c : Thread nD τ), scSem k) := by
  unfold records
  iintro ⟨H, -⟩
  iapply (show (bigSep (barCells ∪ scCells) fun g => (cellInv ER (sched m) (κ g) g : sProp 𝕄)) ⊢ cellInv ER (sched m) (κ ((c : Thread nD τ), scSem k)) ((c : Thread nD τ), scSem k) from bigSep_elim (Finset.mem_union_right _ (sc_mem c k))); iexact H
theorem reached_bar (c : Dev nD) (k : Fin 2) : records m κ ⊢ reached ER ((c : Thread nD τ), barSem k) 0 := by
  unfold records
  iintro ⟨-, H⟩
  iapply (show (bigSep barCells fun g => (reached ER g 0 : sProp 𝕄)) ⊢ reached ER ((c : Thread nD τ), barSem k) 0 from bigSep_elim (bar_mem c k)); iexact H

/-- The barriers, as a device starts: its own and its partner's. -/
theorem bars (c : Dev nD) (k : Fin 2) (b : Sem sig) (h : barSem k = .reg b) :
    iprop(records m κ ∗ (atPos ER ((c : Thread nD τ), barSem k) 0 ∅ 0 ∗ dutyTok ER ((pr c : Thread nD τ), barSem k) 0 () ∗ cred (tallyAt ((c : Thread nD τ), barSem k) () 1)))
      ⊢ iprop(barOut m κ (pr c) b ∗ barOwn m κ c b) := by
  have e1 := inv_bar m κ c k
  have e2 := inv_bar m κ (pr c) k
  have e3 := reached_bar m κ (pr c) k
  rw [h] at e1 e2 e3
  rw [h]
  unfold barOut barOwn
  iintro ⟨#HR, Ha, Ht, Hc⟩
  isplitl [Ht]
  · isplitr; · iapply e2; iexact HR
    isplitl [Ht]; · iexact Ht
    iapply e3; iexact HR
  isplitr; · iapply e1; iexact HR
  isplitl [Hc] <;> iassumption

theorem mine_intro (c : Dev nD) (k : Scoped) (n : DmaSem sig) (h : scSem k = .dma n) :
    iprop(records m κ ∗ (openTok ER (dcell c n) ∗ dutyTok ER (dcell c n) 0 ())) ⊢ mine m κ c n := by
  have e := inv_sc m κ c k
  rw [h] at e
  unfold mine asleep
  iintro ⟨#HR, Ho, Ht⟩
  isplitl [Ho]
  · isplitr; · iapply e; iexact HR
    iexact Ho
  iexact Ht
theorem theirs_intro (c : Dev nD) (k : Scoped) (n : DmaSem sig) (h : scSem k = .dma n) :
    iprop(records m κ ∗ (openTok ER (dcell c n) ∗ cred (tallyAt (dcell c n) () (dmaAmt n)))) ⊢ theirs m κ c n := by
  have e := inv_sc m κ c k
  rw [h] at e
  unfold theirs asleep
  iintro ⟨#HR, Ho, Ht⟩
  isplitl [Ho]
  · isplitr; · iapply e; iexact HR
    iexact Ho
  iexact Ht
theorem outgoing_intro (c : Dev nD) (k : Scoped) (n : DmaSem sig) (h : scSem k = .dma n) :
    iprop(records m κ ∗ dutyTok ER (dcell c n) 0 ()) ⊢ outgoing m κ c n := by
  have e := inv_sc m κ c k
  rw [h] at e
  unfold outgoing
  iintro ⟨#HR, Ht⟩
  isplitr; · iapply e; iexact HR
  iexact Ht

/-- A device's tokens: of its own cells, and of the cells it fills on its partner. -/
def dealt (c : Dev nD) : sProp 𝕄 :=
  iprop((bigSep Finset.univ fun k : Fin 2 => dutyTok ER ((pr c : Thread nD τ), barSem k) 0 ())
    ∗ ((bigSep Finset.univ fun k : Fin 8 => dutyTok ER (dcell c (copyS k)) 0 ()) ∗ bigSep Finset.univ fun k : Fin 3 => dutyTok ER (dcell (pr c) (takeS k)) 0 ())
    ∗ dutyTok ER (dcell c 25) 0 () ∗ (bigSep Finset.univ fun h : Fin 8 => dutyTok ER (dcell c (sendS h)) 0 ())
    ∗ bigSep Finset.univ fun h : Fin 8 => dutyTok ER (dcell (pr c) (recvS h)) 0 ())
/-- Its rights to open its cells. -/
def openers (c : Dev nD) : sProp 𝕄 :=
  iprop(((bigSep Finset.univ fun k : Fin 8 => openTok ER (dcell c (copyS k))) ∗ bigSep Finset.univ fun k : Fin 3 => openTok ER (dcell c (takeS k)))
    ∗ openTok ER (dcell c 25) ∗ (bigSep Finset.univ fun h : Fin 8 => openTok ER (dcell c (sendS h))) ∗ bigSep Finset.univ fun h : Fin 8 => openTok ER (dcell c (recvS h)))
/-- The credit it waits against. -/
def credits (c : Dev nD) : sProp 𝕄 :=
  iprop((bigSep Finset.univ fun k : Fin 2 => cred (tallyAt ((c : Thread nD τ), barSem k) () 1))
    ∗ (bigSep Finset.univ fun k : Fin 3 => cred (tallyAt (dcell c (takeS k)) () (dmaAmt (takeS k))))
    ∗ bigSep Finset.univ fun h : Fin 8 => cred (tallyAt (dcell c (recvS h)) () (dmaAmt (recvS h))))
def seats (c : Dev nD) : sProp 𝕄 := bigSep Finset.univ fun k : Fin 2 => atPos ER ((c : Thread nD τ), barSem k) 0 ∅ 0

theorem with_records {I : Type} [Fintype I] [DecidableEq I] {Φ Ψ X : I → sProp 𝕄} (h : ∀ i, iprop(records m κ ∗ (Φ i ∗ Ψ i)) ⊢ X i) :
    iprop(records m κ ∗ ((bigSep Finset.univ Φ) ∗ bigSep Finset.univ Ψ)) ⊢ bigSep Finset.univ X := by
  iintro ⟨#HR, H⟩
  iapply (bigSep_with_persistent (R := records m κ) (Φ := fun i => iprop(Φ i ∗ Ψ i)) fun i _ => h i)
  isplitr; · iexact HR
  iapply (pairAll Φ Ψ) $$ H

theorem two (Φ : Fin 2 → sProp 𝕄) : bigSep Finset.univ Φ = iprop(Φ 0 ∗ Φ 1) := BI.bigSep_fin_two Φ

/-- A device's start. -/
theorem kept_intro (c : Dev nD) :
    iprop(records m κ ∗ (seats c ∗ openers c ∗ dealt c) ∗ credits c) ⊢ iprop((∃ K, kept0 m K c) ∗ ∃ K, kept1 m K c) := by
  unfold seats openers dealt credits
  rw [two, two, two]
  iintro ⟨#HR, ⟨⟨Ha0, Ha1⟩, ⟨⟨Ho8, Ho16⟩, Ho25, Hos, Hor⟩, ⟨Hb0, Hb1⟩, ⟨Ht8, Ht16⟩, Ht25, Hts, Htr⟩, ⟨Hc0, Hc1⟩, Hc16, Hcr⟩
  ihave B0 := (bars m κ c 0 bar0 rfl) $$ [Ha0 Hb0 Hc0]
  · isplitr; · iexact HR
    isplitl [Ha0]; · iexact Ha0
    isplitl [Hb0] <;> iassumption
  ihave B1 := (bars m κ c 1 bar1 rfl) $$ [Ha1 Hb1 Hc1]
  · isplitr; · iexact HR
    isplitl [Ha1]; · iexact Ha1
    isplitl [Hb1] <;> iassumption
  icases B0 with ⟨B0, B0'⟩
  icases B1 with ⟨B1, B1'⟩
  isplitl [B0 B0' Ho8 Ho16 Ht8 Ht16 Hc16]
  · iexists κ; unfold kept0
    isplitl [B0]; · iexact B0
    isplitl [B0']; · iexact B0'
    isplitl [Ho8 Ht8]
    · iapply (with_records m κ fun k : Fin 8 => mine_intro m κ c (.inl (.inl k)) (copyS k) rfl)
      isplitr; · iexact HR
      isplitl [Ho8] <;> iassumption
    isplitl [Ho16 Hc16]
    · iapply (with_records m κ fun k : Fin 3 => theirs_intro m κ c (.inl (.inr k)) (takeS k) rfl)
      isplitr; · iexact HR
      isplitl [Ho16] <;> iassumption
    iapply (bigSep_with_persistent (R := records m κ) fun (k : Fin 3) _ => outgoing_intro m κ (pr c) (.inl (.inr k)) (takeS k) rfl)
    isplitr; · iexact HR
    iexact Ht16
  iexists κ; unfold kept1
  isplitl [B1]; · iexact B1
  isplitl [B1']; · iexact B1'
  isplitl [Ho25 Ht25]
  · iapply (mine_intro m κ c (.inr (.inl ())) 25 rfl)
    isplitr; · iexact HR
    isplitl [Ho25] <;> iassumption
  isplitl [Hos Hts]
  · iapply (with_records m κ fun h : Fin 8 => mine_intro m κ c (.inr (.inr (.inl h))) (sendS h) rfl)
    isplitr; · iexact HR
    isplitl [Hos] <;> iassumption
  isplitl [Hor Hcr]
  · iapply (with_records m κ fun h : Fin 8 => theirs_intro m κ c (.inr (.inr (.inr h))) (recvS h) rfl)
    isplitr; · iexact HR
    isplitl [Hor] <;> iassumption
  iapply (bigSep_with_persistent (R := records m κ) fun (h : Fin 8) _ => outgoing_intro m κ (pr c) (.inr (.inr (.inr h))) (recvS h) rfl)
  isplitr; · iexact HR
  iexact Htr

/-! ## Dealing -/

theorem atDev {I : Type} [Fintype I] (Φ : Dev nD × I → sProp 𝕄) :
    (bigSep Finset.univ Φ : sProp 𝕄) = bigSep Finset.univ fun c : Dev nD => bigSep Finset.univ fun i : I => Φ (c, i) := by
  classical exact bigSep_univ_prod _

theorem around (A C E B D X : Dev nD → sProp 𝕄) :
    (bigSep Finset.univ fun c : Dev nD => iprop(A c ∗ (B c ∗ C c) ∗ D c ∗ X c ∗ E c))
      ⊢ bigSep Finset.univ fun c : Dev nD => iprop(A (pr c) ∗ (B c ∗ C (pr c)) ∗ D c ∗ X c ∗ E (pr c)) := by
  rw [bigSep_sep', bigSep_sep', bigSep_sep', bigSep_sep', bigSep_sep', bigSep_sep', bigSep_sep', bigSep_sep', bigSep_sep', bigSep_sep',
    bigSep_univ_equiv swap A, bigSep_univ_equiv swap C, bigSep_univ_equiv swap E]
  exact BI.Entails.refl _

theorem toks_dealt : (bigSep talkToks fun x => (dutyTok ER x.1 x.2.1 x.2.2 : sProp 𝕄)) ⊢ bigSep Finset.univ (dealt (F := F)) := by
  unfold talkToks
  rw [bigSep_map, atDev]
  refine BIBase.Entails.trans (Entails.of_eq (bigSep_congr fun c _ => ?_))
    (around (fun c => bigSep Finset.univ fun k : Fin 2 => dutyTok ER ((c : Thread nD τ), barSem k) 0 ())
      (fun c => bigSep Finset.univ fun k : Fin 3 => dutyTok ER (dcell c (takeS k)) 0 ()) (fun c => bigSep Finset.univ fun h : Fin 8 => dutyTok ER (dcell c (recvS h)) 0 ())
      (fun c => bigSep Finset.univ fun k : Fin 8 => dutyTok ER (dcell c (copyS k)) 0 ()) (fun c => dutyTok ER (dcell c 25) 0 ())
      (fun c => bigSep Finset.univ fun h : Fin 8 => dutyTok ER (dcell c (sendS h)) 0 ()))
  rw [BI.bigSep_univ_sum, BI.bigSep_univ_sum, BI.bigSep_univ_sum, BI.bigSep_univ_sum, BI.bigSep_univ_sum, BI.bigSep_univ_of_subsingleton ()]
  rfl

theorem open_dealt : (bigSep scCells fun g => (openTok ER g : sProp 𝕄)) ⊢ bigSep Finset.univ (openers (F := F)) := by
  rw [bigSep_map, atDev]
  refine Entails.of_eq (bigSep_congr fun c _ => ?_)
  rw [BI.bigSep_univ_sum, BI.bigSep_univ_sum, BI.bigSep_univ_sum, BI.bigSep_univ_sum, BI.bigSep_univ_of_subsingleton ()]
  rfl

theorem seats_dealt : (bigSep barCells fun g => (atPos ER g 0 ∅ 0 : sProp 𝕄)) ⊢ bigSep Finset.univ (seats (F := F)) := by
  rw [bigSep_map, atDev]
  exact BI.Entails.refl _

/-! ## The credit -/

/-- What a device owes at the start: one payment on each of these cells of its partner. -/
abbrev paySem : Fin 2 ⊕ Fin 3 ⊕ Fin 8 → SemLoc sig := Sum.elim barSem (Sum.elim (fun k => .dma (takeS k)) fun h => .dma (recvS h))
abbrev payAmt : Fin 2 ⊕ Fin 3 ⊕ Fin 8 → ℕ := Sum.elim (fun _ => 1) (Sum.elim (fun k => dmaAmt (takeS k)) fun h => dmaAmt (recvS h))
theorem paySem_inj : Function.Injective paySem := by decide +kernel

abbrev O₀ (c : Dev nD) : CellTallies nD τ sig Unit := due1 c + due0 c

theorem regroup {A : Type} [AddCommMonoid A] (h b b' x y z : A) : (h + b') + (z + y + x + b) = (b + b') + ((x + y + z) + h) := by abel

theorem O₀_sum (c : Dev nD) : O₀ c = ∑ j, tallyAt ((pr c : Thread nD τ), paySem j) () (payAmt j) := by
  rw [Fintype.sum_sum_type, Fintype.sum_sum_type, Fin.sum_univ_two, Fin.sum_univ_three]
  unfold O₀ due1 due0 headDues
  rw [Finset.filter_true_of_mem fun h _ => Nat.zero_le h.val]
  unfold headDue
  dsimp only [Sum.elim_inl, Sum.elim_inr]
  exact regroup ..

theorem owed_at (d c : Dev nD) (j : Fin 2 ⊕ Fin 3 ⊕ Fin 8) : O₀ d ((c : Thread nD τ), paySem j) () = if d = pr c then payAmt j else 0 := by
  rw [O₀_sum, Finset.sum_apply, Finsupp.finset_sum_apply, Finset.sum_congr rfl fun j' _ => tallyAt_apply ..]
  by_cases h : d = pr c
  · subst h
    rw [pr_pr, if_pos rfl]
    rw [Finset.sum_eq_single j, if_pos ⟨rfl, rfl⟩]
    · intro j' _ hj
      exact if_neg fun ⟨h1, _⟩ => hj (paySem_inj (congrArg Prod.snd h1)).symm
    · exact fun h => absurd (Finset.mem_univ j) h
  · rw [if_neg h]
    exact Finset.sum_eq_zero fun j' _ => if_neg fun ⟨h1, _⟩ => h (by rw [← pr_pr d]; exact congrArg pr (congrArg (fun g : GSem nD τ sig => g.1.1) h1).symm)

theorem launch_at (c : Dev nD) (j : Fin 2 ⊕ Fin 3 ⊕ Fin 8) :
    tallyOn ((c : Thread nD τ), paySem j) (launchCredit (Pipeline.owing O₀) 0 ((c : Thread nD τ), paySem j))
      = (tallyAt ((c : Thread nD τ), paySem j) () (payAmt j) : CellTallies nD τ sig Unit) := by
  unfold tallyAt; refine congrArg _ (Finsupp.ext fun u => ?_); cases u
  rw [Pipeline.launchCredit_owing, Finsupp.single_eq_same, Finset.sum_congr rfl fun d _ => owed_at d c j, Finset.sum_ite_eq' Finset.univ (pr c) fun _ => payAmt j,
    if_pos (Finset.mem_univ _)]

theorem credits_launched (c : Dev nD) : (Pipeline.launchCred O₀ c : sProp 𝕄) ⊢ credits c := by
  unfold Pipeline.launchCred
  refine (BI.bigSep_subset (Finset.subset_univ (Finset.univ.map ⟨paySem, paySem_inj⟩))).trans ?_
  rw [bigSep_map]
  refine BIBase.Entails.trans (Entails.of_eq (bigSep_congr (Ψ := fun j => (cred (tallyAt ((c : Thread nD τ), paySem j) () (payAmt j)) : sProp 𝕄))
    fun j _ => congrArg (fun t => (cred t : sProp 𝕄)) (launch_at c j))) ?_
  rw [BI.bigSep_univ_sum, BI.bigSep_univ_sum]
  exact BI.Entails.refl _

end Cert.Proof.Mla

end
-- ==== Proof.Run.lean ====
/- The program's run from any memory: it ends, its arguments as they were, the result in place, and every counter at zero. -/
module

public import proofs.«01_k».proof.Proof.Launch

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-- What a device holds when the program starts, and when it has ended. -/
abbrev T₀ (c : Dev nD) : sProp 𝕄 := iprop(StableHlo.held (c : Thread nD τ) (Pipeline.ucRefs τ sig) (V₀ m c) ∗ beside m c)
abbrev Tₙ (c : Dev nD) : sProp 𝕄 := iprop(StableHlo.held (c : Thread nD τ) (Pipeline.ucRefs τ sig) (V₃ m c) ∗ leave0 c ∗ leave1 c)

theorem counters (c : Dev nD) : (unscopedSems0 c : sProp 𝕄) = bigSep Finset.univ fun k : Fin 2 => semVal ((c : Thread nD τ), barSem k) 0 := by
  unfold unscopedSems0
  rw [show (Finset.univ.filter fun sm : SemLoc sig => ¬ sm.isScoped .tc) = Finset.univ.map ⟨barSem, barSem_inj⟩ from by decide, bigSep_map]
  rfl

/-- What a device starts with beside the cells. -/
def bundle (c : Dev nD) : sProp 𝕄 :=
  iprop(StableHlo.held (c : Thread nD τ) (Pipeline.ucRefs τ sig) (V₀ m c) ∗ owe c (O₀ c) ∗ ∃ r, prngReg c r)

theorem T₀_intro (κ : GSem nD τ sig → ℕ) (c : Dev nD) :
    iprop(records m κ ∗ ((seats c ∗ openers c ∗ dealt c) ∗ (credits c ∗ bundle m c))) ⊢ T₀ m c := by
  unfold bundle T₀ beside
  iintro ⟨#HR, Hg, Hc, Hh, HO, Hp⟩
  ihave HK := (kept_intro m κ c) $$ [Hg Hc]
  · isplitr; · iexact HR
    isplitl [Hg] <;> iassumption
  icases HK with ⟨H0, H1⟩
  isplitl [Hh]; · iexact Hh
  isplitl [H0]; · iexact H0
  isplitl [H1]; · iexact H1
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((credits c ∗ bundle m c) ∗ ((bigSep Finset.univ fun k : Fin 2 => semVal ((c : Thread nD τ), barSem k) 0) ∗ G c)) : sProp 𝕄) := by
    rw [show unscopedBufs c (fun b => m ((c : Thread nD τ).loc b)) = StableHlo.held (c : Thread nD τ) (Pipeline.ucRefs τ sig) (V₀ m c)
      from Pipeline.unscopedBufs_held c (V₀ m c), counters]
    unfold bundle owe
    iintro ⟨Hh, Hv, HO, Hc, Hp, HG⟩
    ihave Hc := (credits_launched c) $$ Hc
    isplitl [Hc Hh HO Hp]
    · isplitl [Hc]; · iexact Hc
      isplitl [Hh]; · iexact Hh
      isplitl [HO]; · iexists ∅; iexact HO
      iexists (ρ c); iexact Hp
    isplitl [Hv] <;> iassumption
  have hv : (bigSep Finset.univ fun c : Dev nD => (bigSep Finset.univ fun k : Fin 2 => semVal ((c : Thread nD τ), barSem k) 0 : sProp 𝕄))
      ⊢ bigSep barCells (fun g => (semVal g 0 : sProp 𝕄)) := by
    rw [bigSep_map, atDev]; exact BI.Entails.refl _
  have hall := allMono fun c : Dev nD => hcore c
  iintro ⟨H, -⟩
  ihave H := (hall) $$ H
  ihave H := (unpairAll _ _) $$ H
  icases H with ⟨HB, H⟩
  ihave H := (unpairAll _ _) $$ H
  icases H with ⟨Hv, HG⟩
  ihave Hu := (Entails.of_eq (G_all (F := F))) $$ HG
  imod (Rounds.fund_launch ER (sched m) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop((seats c ∗ openers c ∗ dealt c) ∗ (credits c ∗ bundle m c))) fun c _ => T₀_intro m κ c)
  isplitr
  · unfold records
    isplitr; · iexact Hinv
    iexact Hr
  iapply (pairAll _ _)
  isplitr [HB]
  · iapply (pairAll _ _)
    isplitl [Hat]; · iapply (seats_dealt (F := F)) $$ Hat
    iapply (pairAll _ _)
    isplitl [Hopen]; · iapply (open_dealt (F := F)) $$ Hopen
    iapply (toks_dealt (F := F)) $$ Htok
  · iexact HB

theorem unscoped_eq : ∀ sm : SemLoc sig, sm.isScoped .tc = false → sm = .reg bar0 ∨ sm = .reg bar1 := by decide

/-- The arguments at the end are as they were. -/
def Unchanged (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

set_option backward.isDefEq.respectTransparency.types false in
/-- From any memory with zero counters the program ends on every device, the arguments unchanged, the result the one computed
    by the two bodies, and every counter at zero. -/
theorem run_main : θ_run (defs (F := F)) (onTc (τ := τ) (main (F := F))) ⟨m, fun _ => 0, ρ⟩
    (fun r => (∀ c : Dev nD, Unchanged m r.2 c ∧ r.2.mem ((c : Thread nD τ).loc main_v3) = result m c) ∧ r.2.sem = fun _ => 0) :=
  Pipeline.θ_run_regions_kit_sems (pcfgs (F := F)) adm (pdats m) () cellOf_inj EP defs₀ 𝒱₀ L lv m ρ main (items m)
    (fun c Q => by rw [main_items m c])
    (by simp only [items, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg1_pre m c, fun c => reg1_post m c⟩)
    (hinit := init m ρ)
    (QY := fun c s => (∀ b ∈ Pipeline.ucRefs τ sig, s.mem (c, b) = V₃ m c b) ∧ s.sem (bcell c bar0) = 0 ∧ s.sem (bcell c bar1) = 0)
    (hfin := fun c s' => by
      dsimp only [Tₙ]; unfold StableHlo.held leave0 leave1 spent
      iintro ⟨⟨Hh, H0, H1⟩, HSI⟩
      icombine HSI H0 gives %h0
      icombine HSI H1 gives %h1
      ihave Hr := (pointsTo_read_all (Pipeline.ucRefs τ sig) (fun b => ((c : Thread nD τ).1, b)) (V₃ m c) s') $$ [Hh HSI]
      · isplitl [Hh] <;> iassumption
      icases Hr with ⟨%h, HSI⟩
      imodintro
      isplitr
      · ipureintro
        exact ⟨h, by simpa using h0, by simpa using h1⟩
      iexact HSI)
    (hQ := fun s h hs => by
      have at_ (c : Dev nD) (r : Ref sig .tc) (hr : ¬ (Proc.devRef (τ := τ) .tc r).isScoped) : s.mem ((c : Thread nD τ).loc r) = V₃ m c r :=
        (h c).1 (Proc.devRef .tc r) (Finset.mem_filter.mpr ⟨StableHlo.devRef_mem_tcRefs r, hr⟩)
      refine ⟨fun c => ⟨?_, (at_ c main_v3 (by decide)).trans (V₃_result m c)⟩, sem_eq_zero hs fun c sm hsm => ?_⟩
      · unfold Unchanged
        exact ⟨(at_ c main_arg0 (by decide)).trans (V₃_arg m c main_arg0 (by decide) (by decide) (by decide)),
          (at_ c main_arg1 (by decide)).trans (V₃_arg m c main_arg1 (by decide) (by decide) (by decide)),
          (at_ c main_arg2 (by decide)).trans (V₃_arg m c main_arg2 (by decide) (by decide) (by decide)),
          (at_ c main_arg3 (by decide)).trans (V₃_arg m c main_arg3 (by decide) (by decide) (by decide)),
          (at_ c main_arg4 (by decide)).trans (V₃_arg m c main_arg4 (by decide) (by decide) (by decide)),
          (at_ c main_arg5 (by decide)).trans (V₃_arg m c main_arg5 (by decide) (by decide) (by decide)),
          (at_ c main_arg6 (by decide)).trans (V₃_arg m c main_arg6 (by decide) (by decide) (by decide)),
          (at_ c main_arg7 (by decide)).trans (V₃_arg m c main_arg7 (by decide) (by decide) (by decide))⟩
      · rcases unscoped_eq sm hsm with rfl | rfl
        · exact (h c).2.1
        · exact (h c).2.2)

end Cert.Proof.Mla

end
-- ==== Proof.Frames.lean ====
/- What the runs say of the arguments and the counters: the frame of each program. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof.Mla

open Idealize.ShloMosaic Idealize.SL.Sem

instance kernelFacts : Cert.Kernel.Facts := Cert.Kernel.Gen.facts
instance kernelIdealFacts : Cert.KernelIdeal.Facts := Cert.KernelIdeal.Gen.facts
instance referenceFacts : Cert.ReferenceIdeal.Facts := Cert.ReferenceIdeal.Gen.facts

/-- The run, of which only the arguments and the counters are kept. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c, Unchanged m r.2 c) ∧ r.2.sem = fun _ => 0) :=
  (θ_run Cert.KernelIdeal.defs _ _).mono (fun _ h => ⟨fun c => (h.1 c).1, h.2⟩) (run_main m ρ)

theorem frame_ideal : Cert.quiescent_KernelIdeal := fun m ρ _ => frame_run m ρ

/-- The kernel and its idealization have one text: their bodies agree label by label, and so their tables. -/
theorem bodies_eq : Cert.KernelIdeal.defs₀ (F := Bits) = Cert.Kernel.defs₀ (F := Bits) :=
  congrArg Defs.onTc (funext fun ℓ => funext fun a => by
    obtain ⟨n, hn⟩ := ℓ
    match n, hn, a with
    | 0, _, (t, s) => rfl
    | 1, _, (t, s) => rfl)
theorem defs_eq : Cert.KernelIdeal.defs (F := Bits) = Cert.Kernel.defs (F := Bits) :=
  congrArg (Pipeline.defs (Cert.KernelIdeal.pcfgs (F := Bits))) bodies_eq

theorem frame_kernel : Cert.quiescent_Kernel := fun m ρ _ => by
  have h := frame_run (F := Bits) m ρ
  rw [defs_eq] at h
  exact h

theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Proof.Mla

end
-- ==== Proof.Maths.lean ====
/- The problem's mathematics over the real numbers, and how sums, exponentials and quotients of reals read among the extended reals. -/
module

public import Idealize.ShloMosaic.PureOps.Ideal
public import Idealize.ShloMosaic.PureOps.Ideal.Laws
public import Idealize.ShloMosaic.Lib.Pointwise

@[expose] public section

noncomputable section

namespace Cert.Proof.Mla

open Idealize.ShloMosaic

/-! ## Reals among the extended reals -/

/-- A sum of products of reals is real. -/
theorem coe_dot {n : ℕ} (a b : Fin n → ℝ) : ∑ k, ((a k : ℝ) : EReal) * ((b k : ℝ) : EReal) = ((∑ k, a k * b k : ℝ) : EReal) := by
  induction n with
  | zero => simp
  | succ n ih =>
    rw [Fin.sum_univ_succ, Fin.sum_univ_succ, ih (fun k => a k.succ) (fun k => b k.succ), EReal.coe_add, EReal.coe_mul]

theorem coe_sum {n : ℕ} (a : Fin n → ℝ) : ∑ k, ((a k : ℝ) : EReal) = ((∑ k, a k : ℝ) : EReal) := by
  have h := coe_dot a fun _ => 1
  simpa using h

/-- A nonnegative real factor goes into a sum of real multiples of any values. -/
theorem sum_scale {n : ℕ} (a : Fin n → ℝ) (v : Fin n → EReal) (r : ℝ) (hr : 0 ≤ r) :
    (∑ t, ((a t : ℝ) : EReal) * v t) * (r : EReal) = ∑ t, ((a t * r : ℝ) : EReal) * v t := by
  induction n with
  | zero => simp
  | succ n ih =>
    rw [Fin.sum_univ_succ, Fin.sum_univ_succ, mul_comm, EReal.left_distrib_of_nonneg_of_ne_top (EReal.coe_nonneg.2 hr) (EReal.coe_ne_top r),
      mul_comm (r : EReal) (∑ _, _), ih (fun t => a t.succ) (fun t => v t.succ), EReal.coe_mul, mul_comm (a 0 : EReal) (r : EReal), mul_assoc]

theorem exp_coe (r : ℝ) : Ideal.exp (r : EReal) = (Real.exp r : EReal) := rfl

/-- A quotient by a nonzero real. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The greatest of finitely many reals, and of −∞, is one real, where there is at least one. -/
theorem max_coe {n : ℕ} (a : Fin (n + 1) → ℝ) : ∃ M : ℝ, (Finset.univ.fold max (⊥ : EReal) fun t => ((a t : ℝ) : EReal)) = (M : EReal) := by
  suffices h : ∀ s : Finset (Fin (n + 1)), s.Nonempty → ∃ M : ℝ, (s.fold max (⊥ : EReal) fun t => ((a t : ℝ) : EReal)) = (M : EReal) from
    h _ Finset.univ_nonempty
  intro s hs
  induction hs using Finset.Nonempty.cons_induction with
  | singleton t => exact ⟨a t, by simp⟩
  | cons t s ht hs ih =>
    obtain ⟨M, hM⟩ := ih
    exact ⟨max (a t) M, by rw [Finset.fold_cons, hM]; exact (EReal.coe_strictMono.monotone.map_max).symm⟩

/-- The scores' factor, as the real number that its word is. -/
def factor : ℝ := (Ideal.ofBits .f32 0x3DA1E89B#32).toReal
theorem factor_coe : Ideal.ofBits .f32 0x3DA1E89B#32 = (factor : EReal) := by
  have h : ∃ r : ℝ, Ideal.ofBits .f32 0x3DA1E89B#32 = (r : EReal) := by
    simp only [Ideal.ofBits, Ideal.ieee]
    rw [if_neg (by decide), if_neg (by decide)]
    exact ⟨_, rfl⟩
  obtain ⟨r, hr⟩ := h
  unfold factor
  rw [hr, EReal.toReal_coe]
theorem negInf : Ideal.ofBits .f32 0xFF800000#32 = (⊥ : EReal) := by
  simp [Ideal.ofBits, Ideal.ieee]

/-! ## The problem -/

/-- The arguments: those that the scores depend on are real matrices, the weights of the values and of the output any. -/
structure Weights where
  x : Fin 1024 → Fin 2048 → ℝ
  wdkv : Fin 2048 → Fin 256 → ℝ
  wuk : Fin 256 → Fin 2048 → ℝ
  wuv : Fin 256 → Fin 2048 → EReal
  wq : Fin 2048 → Fin 2048 → ℝ
  wqr : Fin 2048 → Fin 512 → ℝ
  wkr : Fin 2048 → Fin 32 → ℝ
  wo : Fin 2048 → Fin 2048 → EReal

namespace Weights
variable (W : Weights)

/-- The latent, the keys, the values, the queries, and the rotary queries and keys. -/
def latent (i : Fin 1024) (k : Fin 256) : ℝ := ∑ d, W.x i d * W.wdkv d k
def key (i : Fin 1024) (n : Fin 2048) : ℝ := ∑ k, W.latent i k * W.wuk k n
def value (i : Fin 1024) (n : Fin 2048) : EReal := ∑ k, (W.latent i k : EReal) * W.wuv k n
def query (i : Fin 1024) (n : Fin 2048) : ℝ := ∑ d, W.x i d * W.wq d n
def ropeQuery (i : Fin 1024) (n : Fin 512) : ℝ := ∑ d, W.x i d * W.wqr d n
def ropeKey (i : Fin 1024) (r : Fin 32) : ℝ := ∑ d, W.x i d * W.wkr d r

end Weights

/-- The columns of head `h`. -/
def col (h : Fin 16) (e : Fin 128) : Fin 2048 := ⟨h.val * 128 + e.val, by omega⟩
def ropeCol (h : Fin 16) (r : Fin 32) : Fin 512 := ⟨h.val * 32 + r.val, by omega⟩

namespace Weights
variable (W : Weights)

/-- The scores of head `h`, their softmax over the keys, and the head's output. -/
def score (h : Fin 16) (s t : Fin 1024) : ℝ :=
  (∑ e, W.query s (col h e) * W.key t (col h e) + ∑ r, W.ropeQuery s (ropeCol h r) * W.ropeKey t r) * factor
def mass (h : Fin 16) (s : Fin 1024) : ℝ := ∑ t, Real.exp (W.score h s t)
def head (h : Fin 16) (s : Fin 1024) (e : Fin 128) : EReal :=
  ∑ t, ((Real.exp (W.score h s t) / W.mass h s : ℝ) : EReal) * W.value t (col h e)
/-- The heads side by side, and the result. -/
def attended (s : Fin 1024) (n : Fin 2048) : EReal :=
  W.head ⟨n.val / 128, by omega⟩ s ⟨n.val % 128, Nat.mod_lt _ (by decide)⟩
def out (s : Fin 1024) (n : Fin 2048) : EReal := ∑ j, W.attended s j * W.wo j n

theorem mass_pos (h : Fin 16) (s : Fin 1024) : 0 < W.mass h s :=
  Finset.sum_pos (fun _ _ => Real.exp_pos _) ⟨0, Finset.mem_univ _⟩

end Weights

/-- Softmax does not see a shift of the scores. -/
theorem softmax_shift {n : ℕ} (a : Fin n → ℝ) (M : ℝ) (t : Fin n) :
    Real.exp (a t - M) / ∑ u, Real.exp (a u - M) = Real.exp (a t) / ∑ u, Real.exp (a u) := by
  simp only [Real.exp_sub]
  rw [← Finset.sum_div, div_div_div_cancel_right₀ (Real.exp_pos M).ne']

/-- A sum over twice as many places is the sum of its two halves. -/
theorem sum_halves {M : Type} [AddCommMonoid M] (n : ℕ) (f : Fin (n + n) → M) :
    ∑ k, f k = ∑ k : Fin n, f ⟨k.val, by omega⟩ + ∑ k : Fin n, f ⟨n + k.val, by omega⟩ := Fin.sum_univ_add f

end Cert.Proof.Mla

end
-- ==== Proof.Payloads.lean ====
/- What the kernel's arithmetic computes at one place of an array, at the ideal values. -/
module

public import proofs.«01_k».proof.Proof.Common
public import proofs.«01_k».proof.Proof.Maths

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem k0_pay1_at (a : Vec Ideal S1024x128 .bf16) (b : Vec Ideal S128x1024 .bf16) (a' : Vec Ideal S1024x128 .bf16) (b' : Vec Ideal S128x1024 .bf16)
    (i j : Fin 1024) : k0_pay1 a b a' b' (ix2 i j) = (∑ k : Fin 128, a (ix2 i k) * b (ix2 k j)) + ∑ k : Fin 128, a' (ix2 i k) * b' (ix2 k j) := by
  pointwise [k0_pay1]
theorem k0_pay2_at (a : Vec Ideal S1024x128 .bf16) (b : Vec Ideal S128x1024 .bf16) (a' : Vec Ideal S1024x128 .bf16) (b' : Vec Ideal S128x1024 .bf16)
    (i j : Fin 1024) : k0_pay2 a b a' b' (ix2 i j) = (∑ k : Fin 128, a (ix2 i k) * b (ix2 k j)) + ∑ k : Fin 128, a' (ix2 i k) * b' (ix2 k j) := by
  pointwise [k0_pay2]
theorem k0_pay3_at (a : Vec Ideal S1024x128 .bf16) (b : Vec Ideal S128x1024 .bf16) (a' : Vec Ideal S1024x128 .bf16) (b' : Vec Ideal S128x1024 .bf16)
    (i j : Fin 1024) : k0_pay3 a b a' b' (ix2 i j) = (∑ k : Fin 128, a (ix2 i k) * b (ix2 k j)) + ∑ k : Fin 128, a' (ix2 i k) * b' (ix2 k j) := by
  pointwise [k0_pay3]
theorem k0_pay4_at (a : Vec Ideal S1024x128 .bf16) (b : Vec Ideal S128x1024 .bf16) (a' : Vec Ideal S1024x128 .bf16) (b' : Vec Ideal S128x1024 .bf16)
    (i j : Fin 1024) : k0_pay4 a b a' b' (ix2 i j) = (∑ k : Fin 128, a (ix2 i k) * b (ix2 k j)) + ∑ k : Fin 128, a' (ix2 i k) * b' (ix2 k j) := by
  pointwise [k0_pay4]

theorem k0_pay65_at (a : Vec Ideal S128x2048 .f32) (k : Fin 128) (n : Fin 2048) : k0_pay6 (k0_pay5 a) (ix2 k n) = a (ix2 k n) := by
  pointwise [k0_pay6, k0_pay5]
theorem k0_pay7_at (a : Vec Ideal S128x2048 .f32) (k : Fin 128) (n : Fin 2048) : k0_pay7 a (ix2 k n) = a (ix2 k n) := by
  pointwise [k0_pay7]
theorem k0_pay8_at (a : Vec Ideal S512x2048 .f32) (b : Vec Ideal S2048x128 .f32) (i : Fin 512) (k : Fin 128) :
    k0_pay8 a b (ix2 i k) = ∑ d : Fin 2048, a (ix2 i d) * b (ix2 d k) := by
  pointwise [k0_pay8]
theorem k0_pay109_at (a : Vec Ideal S512x2048 .f32) (b : Vec Ideal S2048x128 .f32) (i : Fin 512) (k : Fin 128) :
    k0_pay10 (k0_pay9 a b) (ix2 i k) = ∑ d : Fin 2048, a (ix2 i d) * b (ix2 d k) := by
  pointwise [k0_pay10, k0_pay9]
theorem k0_pay11_at (a : Vec Ideal S1024x2048 .f32) (b : Vec Ideal S2048x32 .f32) (i : Fin 1024) (r : Fin 32) :
    k0_pay11 a b (ix2 i r) = ∑ d : Fin 2048, a (ix2 i d) * b (ix2 d r) := by
  pointwise [k0_pay11]
theorem k0_pay12_at (a : Vec Ideal S1024x2048 .f32) (b : Vec Ideal S2048x256 .f32) (i : Fin 1024) (n : Fin 256) :
    k0_pay12 a b (ix2 i n) = (∑ d : Fin 2048, a (ix2 i d) * b (ix2 d n)) * Ideal.ofBits .f32 0x3DA1E89B#32 := by
  pointwise [k0_pay12]
theorem k0_pay13_at (a : Vec Ideal S1024x2048 .f32) (b : Vec Ideal S2048x1024 .f32) (i : Fin 1024) (n : Fin 1024) :
    k0_pay13 a b (ix2 i n) = (∑ d : Fin 2048, a (ix2 i d) * b (ix2 d n)) * Ideal.ofBits .f32 0x3DA1E89B#32 := by
  pointwise [k0_pay13]

/-- A head's scores, before the exponential. -/
def scoreOf (kr : Vec Ideal S1024x32 .bf16) (q k : Vec Ideal S1024x128 .bf16) (qr : Vec Ideal S1024x32 .bf16) (s t : Fin 1024) : EReal :=
  (∑ e : Fin 128, q (ix2 s e) * k (ix2 t e)) + ∑ r : Fin 32, qr (ix2 s r) * kr (ix2 t r)

theorem headVal_at (kr : Vec Ideal S1024x32 .bf16) (q k : Vec Ideal S1024x128 .bf16) (qr : Vec Ideal S1024x32 .bf16) (v : Vec Ideal S1024x128 .bf16)
    (s : Fin 1024) (e : Fin 128) :
    headVal kr q k qr v (ix2 s e) = (∑ t : Fin 1024, Ideal.exp (scoreOf kr q k qr s t) * v (ix2 t e))
      * Ideal.div 1 (∑ t : Fin 1024, Ideal.exp (scoreOf kr q k qr s t)) := by
  pointwise [headVal, k1_pay20, k1_pay2, scoreOf]

theorem k1_pay22_at (a : Vec Ideal S1024x1024 .bf16) (b : Vec Ideal S1024x2048 .f32) (s : Fin 1024) (n : Fin 2048) :
    k1_pay22 a b (ix2 s n) = ∑ j : Fin 1024, a (ix2 s j) * b (ix2 j n) := by
  pointwise [k1_pay22]
theorem k1_pay23_at (a : Vec Ideal S1024x1024 .bf16) (b : Vec Ideal S1024x2048 .f32) (s : Fin 1024) (n : Fin 2048) :
    k1_pay23 a b (ix2 s n) = ∑ j : Fin 1024, a (ix2 s j) * b (ix2 j n) := by
  pointwise [k1_pay23]
theorem k1_pay24_at (p : Vec Ideal S1024x2048 .f32) (a : Vec Ideal S1024x1024 .bf16) (b : Vec Ideal S1024x2048 .f32) (s : Fin 1024) (n : Fin 2048) :
    k1_pay24 p a b (ix3 0 s n) = p (ix2 s n) + ∑ j : Fin 1024, a (ix2 s j) * b (ix2 j n) := by
  pointwise [k1_pay24]
theorem k1_pay1_at (p : Vec Ideal S1024x2048 .f32) (a : Vec Ideal S1024x1024 .bf16) (b : Vec Ideal S1024x2048 .f32) (s : Fin 1024) (n : Fin 2048) :
    k1_pay1 p a b (ix3 0 s n) = p (ix2 s n) + ∑ j : Fin 1024, a (ix2 s j) * b (ix2 j n) := by
  pointwise [k1_pay1]

end Cert.Proof.Mla

end
-- ==== Proof.KernelValue.lean ====
/- What the kernel leaves on a device, read at one place: the problem's mathematics of the whole arrays, at the ideal values where the arguments that the scores depend on are finite. -/
module

public import proofs.«01_k».proof.Proof.Payloads

@[expose] public section

noncomputable section

namespace Cert.Proof.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## A device's place in the whole arrays -/

/-- Whole-array places of a device's latent columns, of its heads' columns, and of its heads. -/
def half (c : Dev nD) (k : Fin 128) : Fin 256 := ⟨128 * (c.val / 16) + k.val, by have : c.val < 32 := c.isLt; omega⟩
def colOf (c : Dev nD) (n : Fin 1024) : Fin 2048 := ⟨1024 * (c.val / 16) + n.val, by have : c.val < 32 := c.isLt; omega⟩
def ropeColOf (c : Dev nD) (n : Fin 256) : Fin 512 := ⟨256 * (c.val / 16) + n.val, by have : c.val < 32 := c.isLt; omega⟩
def headOf (c : Dev nD) (h : Fin 8) : Fin 16 := ⟨8 * (c.val / 16) + h.val, by have : c.val < 32 := c.isLt; omega⟩

theorem pr_side (c : Dev nD) : (pr c).val / 16 = 1 - c.val / 16 := by revert c; decide

/-- A sum over all places is the device's part and its partner's. -/
theorem halves_of (c : Dev nD) (f : Fin 256 → EReal) : ∑ k, f (half c k) + ∑ k, f (half (pr c) k) = ∑ k, f k := by
  have hc : c.val < 32 := c.isLt
  rw [sum_halves 128 f]
  by_cases h : c.val < 16
  · refine congrArg₂ (· + ·) (Finset.sum_congr rfl fun k _ => congrArg f (Fin.ext ?_)) (Finset.sum_congr rfl fun k _ => congrArg f (Fin.ext ?_)) <;>
      simp only [half, pr_side] <;> omega
  · rw [add_comm]
    refine congrArg₂ (· + ·) (Finset.sum_congr rfl fun k _ => congrArg f (Fin.ext ?_)) (Finset.sum_congr rfl fun k _ => congrArg f (Fin.ext ?_)) <;>
      simp only [half, pr_side] <;> omega

theorem cols_of (c : Dev nD) (f : Fin 2048 → EReal) : ∑ k, f (colOf c k) + ∑ k, f (colOf (pr c) k) = ∑ k, f k := by
  have hc : c.val < 32 := c.isLt
  rw [sum_halves 1024 f]
  by_cases h : c.val < 16
  · refine congrArg₂ (· + ·) (Finset.sum_congr rfl fun k _ => congrArg f (Fin.ext ?_)) (Finset.sum_congr rfl fun k _ => congrArg f (Fin.ext ?_)) <;>
      simp only [colOf, pr_side] <;> omega
  · rw [add_comm]
    refine congrArg₂ (· + ·) (Finset.sum_congr rfl fun k _ => congrArg f (Fin.ext ?_)) (Finset.sum_congr rfl fun k _ => congrArg f (Fin.ext ?_)) <;>
      simp only [colOf, pr_side] <;> omega

/-- A part of a matrix, read at one place. -/
theorem cut_at {α : Type} {M N p q : ℕ} (off : Fin 2 → ℕ) (inb : ∀ a, off a + (![p, q] : Fin 2 → ℕ) a ≤ (⟨2, ![M, N]⟩ : Shape).size a)
    (f : (⟨2, ![M, N]⟩ : Shape).Idx → α) (a : Fin p) (b : Fin q) (i : Fin M) (j : Fin N) (hi : i.val = off 0 + a.val) (hj : j.val = off 1 + b.val) :
    cut (Rect.unit (s := ⟨2, ![M, N]⟩) off ![p, q] inb) f (ix2 a b) = f (ix2 i j) := by
  refine congrArg f (funext fun ax => Fin.ext ?_)
  rw [Rect.emb_apply]
  fin_cases ax
  · show off 0 + 1 * a.val = i.val
    omega
  · show off 1 + 1 * b.val = j.val
    omega

theorem off1_row : ∀ c : Dev nD, k0_off1 c 0 = 0 := by decide
theorem off1_col : ∀ c : Dev nD, k0_off1 c 1 = 1024 * (c.val / 16) := by decide
theorem off2_row : ∀ c : Dev nD, k0_off2 c 0 = 0 := by decide
theorem off2_col : ∀ c : Dev nD, k0_off2 c 1 = 256 * (c.val / 16) := by decide

/-! ## The arrays -/

variable (m : (ℓ : Loc nD τ sig) → Buf (Elt Ideal) ℓ) (W : Weights)

/-- The devices hold their parts of the matrices. -/
structure Holds : Prop where
  x : ∀ (c : Dev nD) (s : Fin 1024) (d : Fin 2048), xA m c (ix2 s d) = ((W.x s d : ℝ) : EReal)
  wdkv : ∀ (c : Dev nD) (d : Fin 2048) (k : Fin 128), wdkvA m c (ix2 d k) = ((W.wdkv d (half c k) : ℝ) : EReal)
  wuk : ∀ (c : Dev nD) (k : Fin 128) (n : Fin 2048), wukA m c (ix2 k n) = ((W.wuk (half c k) n : ℝ) : EReal)
  wuv : ∀ (c : Dev nD) (k : Fin 128) (n : Fin 2048), wuvA m c (ix2 k n) = W.wuv (half c k) n
  wq : ∀ (c : Dev nD) (d n : Fin 2048), wqA m c (ix2 d n) = ((W.wq d n : ℝ) : EReal)
  wqr : ∀ (c : Dev nD) (d : Fin 2048) (n : Fin 512), wqrA m c (ix2 d n) = ((W.wqr d n : ℝ) : EReal)
  wkr : ∀ (c : Dev nD) (d : Fin 2048) (r : Fin 32), wkrA m c (ix2 d r) = ((W.wkr d r : ℝ) : EReal)
  wo : ∀ (c : Dev nD) (j n : Fin 2048), woA m c (ix2 j n) = W.wo j n

variable {m W} (H : Holds m W) (c : Dev nD)
include H

theorem lat_at (i : Fin 1024) (k : Fin 128) : lat m c (ix2 i k) = ((W.latent i (half c k) : ℝ) : EReal) := by
  have hi := i.isLt
  by_cases h : i.val < 512
  · have e : lat m c (ix2 i k) = latTop m c (ix2 ⟨i.val, h⟩ k) := dif_pos h
    rw [e, latTop, k0_pay8_at, Weights.latent, ← coe_dot]
    refine Finset.sum_congr rfl fun d _ => congrArg₂ (· * ·) ?_ (H.wdkv c d k)
    exact (cut_at _ _ (xA m c) ⟨i.val, h⟩ d i d (by show i.val = 0 + i.val; omega) (by show d.val = 0 + d.val; omega)).trans (H.x c i d)
  · have e : lat m c (ix2 i k) = latBot m c (ix2 ⟨i.val - 512, by omega⟩ k) := dif_neg h
    rw [e, latBot, k0_pay109_at, Weights.latent, ← coe_dot]
    refine Finset.sum_congr rfl fun d _ => congrArg₂ (· * ·) ?_ (H.wdkv c d k)
    exact (cut_at _ _ (xA m c) ⟨i.val - 512, _⟩ d i d (by show i.val = 512 + (i.val - 512); omega) (by show d.val = 0 + d.val; omega)).trans (H.x c i d)

theorem wukB_at (k : Fin 128) (n : Fin 2048) : wukB m c (ix2 k n) = ((W.wuk (half c k) n : ℝ) : EReal) := by
  rw [wukB, k0_pay65_at]; exact H.wuk c k n
theorem wuvB_at (k : Fin 128) (n : Fin 2048) : wuvB m c (ix2 k n) = W.wuv (half c k) n := by
  rw [wuvB, k0_pay7_at]; exact H.wuv c k n

omit H in
/-- The half of a factor's columns that a device on one side uses. -/
theorem left_at (f : S128x2048.Idx → EReal) (h : c.val < 16) (k : Fin 128) (n : Fin 1024) : cut wLeft f (ix2 k n) = f (ix2 k (colOf c n)) :=
  cut_at _ _ f k n k (colOf c n) (by show k.val = 0 + k.val; omega) (by show 1024 * (c.val / 16) + n.val = 0 + n.val; omega)
omit H in
theorem right_at (f : S128x2048.Idx → EReal) (h : ¬ c.val < 16) (k : Fin 128) (n : Fin 1024) : cut wRight f (ix2 k n) = f (ix2 k (colOf c n)) :=
  cut_at _ _ f k n k (colOf c n) (by show k.val = 0 + k.val; omega)
    (by have : c.val < 32 := c.isLt; show 1024 * (c.val / 16) + n.val = 1024 + n.val; omega)

omit H in
/-- The latent times a factor, its own half of the contraction and the partner's. -/
theorem two_products (w : Fin 256 → Fin 2048 → EReal) (B : (c : Dev nD) → S128x2048.Idx → EReal)
    (hB : ∀ (c : Dev nD) k n, B c (ix2 k n) = w (half c k) n) (H : Holds m W) (i : Fin 1024) (n : Fin 2048) :
    (∑ k : Fin 128, lat m c (ix2 i k) * B c (ix2 k n)) + ∑ k : Fin 128, lat m (pr c) (ix2 i k) * B (pr c) (ix2 k n)
      = ∑ k, (W.latent i k : EReal) * w k n := by
  rw [← halves_of c fun k => (W.latent i k : EReal) * w k n]
  exact congrArg₂ (· + ·) (Finset.sum_congr rfl fun k _ => congrArg₂ (· * ·) (lat_at H c i k) (hB c k n))
    (Finset.sum_congr rfl fun k _ => congrArg₂ (· * ·) (lat_at H (pr c) i k) (hB (pr c) k n))

theorem keys_at (i n : Fin 1024) : keys m c (ix2 i n) = ((W.key i (colOf c n) : ℝ) : EReal) := by
  rw [Weights.key, ← coe_dot, ← two_products c (fun k n => (W.wuk k n : EReal)) (fun c => wukB m c) (fun c => wukB_at H c) H i (colOf c n)]
  unfold keys
  split
  · next h => rw [k0_pay1_at]; simp only [left_at c _ h]
  · next h => rw [k0_pay3_at]; simp only [right_at c _ h]
theorem vals_at (i n : Fin 1024) : vals m c (ix2 i n) = W.value i (colOf c n) := by
  rw [Weights.value, ← two_products c W.wuv (fun c => wuvB m c) (fun c => wuvB_at H c) H i (colOf c n)]
  unfold vals
  split
  · next h => rw [k0_pay2_at]; simp only [left_at c _ h]
  · next h => rw [k0_pay4_at]; simp only [right_at c _ h]

theorem ropeKeys_at (i : Fin 1024) (r : Fin 32) : ropeKeys m c (ix2 i r) = ((W.ropeKey i r : ℝ) : EReal) := by
  rw [ropeKeys, k0_pay11_at, Weights.ropeKey, ← coe_dot]
  exact Finset.sum_congr rfl fun d _ => congrArg₂ (· * ·) (H.x c i d) (H.wkr c d r)

theorem queries_at (i n : Fin 1024) : queries m c (ix2 i n) = ((W.query i (colOf c n) * factor : ℝ) : EReal) := by
  rw [queries, k0_pay13_at, Weights.query, factor_coe, EReal.coe_mul, ← coe_dot]
  refine congrArg (· * (factor : EReal)) (Finset.sum_congr rfl fun d _ => congrArg₂ (· * ·) (H.x c i d) ?_)
  exact (cut_at _ _ (wqA m c) d n d (colOf c n) (by rw [off1_row]; omega) (by rw [off1_col]; rfl)).trans (H.wq c d _)
theorem ropeQueries_at (i : Fin 1024) (n : Fin 256) : ropeQueries m c (ix2 i n) = ((W.ropeQuery i (ropeColOf c n) * factor : ℝ) : EReal) := by
  rw [ropeQueries, k0_pay12_at, Weights.ropeQuery, factor_coe, EReal.coe_mul, ← coe_dot]
  refine congrArg (· * (factor : EReal)) (Finset.sum_congr rfl fun d _ => congrArg₂ (· * ·) (H.x c i d) ?_)
  exact (cut_at _ _ (wqrA m c) d n d (ropeColOf c n) (by rw [off2_row]; omega) (by rw [off2_col]; rfl)).trans (H.wqr c d _)

omit H in
/-- The columns of a local head, as columns of the device's array and of the whole one. -/
theorem headCols_at (f : S1024x1024.Idx → EReal) (h : Fin 8) (s : Fin 1024) (e : Fin 128) :
    cut (headCols h) f (ix2 s e) = f (ix2 s ⟨128 * h.val + e.val, by omega⟩) :=
  cut_at _ _ f s e s ⟨128 * h.val + e.val, by omega⟩ (by show s.val = 0 + s.val; omega) rfl
omit H in
theorem ropeCols_at (f : S1024x256.Idx → EReal) (h : Fin 8) (s : Fin 1024) (r : Fin 32) :
    cut (ropeCols h) f (ix2 s r) = f (ix2 s ⟨32 * h.val + r.val, by omega⟩) :=
  cut_at _ _ f s r s ⟨32 * h.val + r.val, by omega⟩ (by show s.val = 0 + s.val; omega) rfl
omit H in
theorem col_eq (h : Fin 8) (e : Fin 128) : colOf c ⟨128 * h.val + e.val, by omega⟩ = col (headOf c h) e :=
  Fin.ext (by simp only [colOf, col, headOf]; omega)
omit H in
theorem ropeCol_eq (h : Fin 8) (r : Fin 32) : ropeColOf c ⟨32 * h.val + r.val, by omega⟩ = ropeCol (headOf c h) r :=
  Fin.ext (by simp only [ropeColOf, ropeCol, headOf]; omega)

theorem scoreOf_at (h : Fin 8) (s t : Fin 1024) :
    scoreOf (ropeKeys m c) (cut (headCols h) (queries m c)) (cut (headCols h) (keys m c)) (cut (ropeCols h) (ropeQueries m c)) s t
      = ((W.score (headOf c h) s t : ℝ) : EReal) := by
  unfold scoreOf
  simp only [headCols_at, ropeCols_at, queries_at H, keys_at H, ropeQueries_at H, ropeKeys_at H, col_eq, ropeCol_eq]
  rw [coe_dot, coe_dot, ← EReal.coe_add]
  refine congrArg _ ?_
  rw [Weights.score, add_mul, Finset.sum_mul, Finset.sum_mul]
  exact congrArg₂ (· + ·) (Finset.sum_congr rfl fun _ _ => by ring) (Finset.sum_congr rfl fun _ _ => by ring)

theorem headOut_at (h : Fin 8) (s : Fin 1024) (e : Fin 128) : headOut m c h (ix2 s e) = W.head (headOf c h) s e := by
  rw [headOut, headVal_at]
  simp only [scoreOf_at H, headCols_at, vals_at H, col_eq, exp_coe]
  have hm : 0 < ∑ t, Real.exp (W.score (headOf c h) s t) := W.mass_pos (headOf c h) s
  rw [coe_sum, ← EReal.coe_one, div_coe 1 (∑ t, Real.exp (W.score (headOf c h) s t)) hm.ne', sum_scale _ _ _ (one_div_nonneg.2 hm.le), Weights.head]
  exact Finset.sum_congr rfl fun t _ => by rw [Weights.mass, mul_one_div]

theorem headsW_at (s n : Fin 1024) : heads m c (ix2 s n) = W.attended s (colOf c n) := by
  refine (headOut_at H c ⟨n.val / 128, by omega⟩ s ⟨n.val % 128, Nat.mod_lt _ (by decide)⟩).trans ?_
  have hc : c.val < 32 := c.isLt
  have h1 : headOf c ⟨n.val / 128, by omega⟩ = ⟨(colOf c n).val / 128, by omega⟩ := Fin.ext (by simp only [headOf, colOf]; omega)
  have h2 : (⟨n.val % 128, Nat.mod_lt _ (by decide)⟩ : Fin 128) = ⟨(colOf c n).val % 128, Nat.mod_lt _ (by decide)⟩ :=
    Fin.ext (by simp only [colOf]; omega)
  rw [Weights.attended, h1, h2]

omit H in
/-- The rows of the output weight that a device's heads meet. -/
theorem woTop_at (f : S2048x2048.Idx → EReal) (c : Dev nD) (h : c.val < 16) (j : Fin 1024) (n : Fin 2048) :
    cut woTop f (ix2 j n) = f (ix2 (colOf c j) n) :=
  cut_at _ _ f j n (colOf c j) n (by show 1024 * (c.val / 16) + j.val = 0 + j.val; omega) (by show n.val = 0 + n.val; omega)
omit H in
theorem woBot_at (f : S2048x2048.Idx → EReal) (c : Dev nD) (h : ¬ c.val < 16) (j : Fin 1024) (n : Fin 2048) :
    cut woBot f (ix2 j n) = f (ix2 (colOf c j) n) :=
  cut_at _ _ f j n (colOf c j) n (by have : c.val < 32 := c.isLt; show 1024 * (c.val / 16) + j.val = 1024 + j.val; omega)
    (by show n.val = 0 + n.val; omega)

/-- Every device ends with the whole result. -/
theorem result_at (s : Fin 1024) (n : Fin 2048) : result m c (ix3 0 s n) = W.out s n := by
  have hp := pr_side c
  have hc : c.val < 32 := c.isLt
  have hpc : (pr c).val < 32 := (pr c).isLt
  have h2 : (∑ j : Fin 1024, heads m c (ix2 s j) * woA m c (ix2 (colOf c j) n))
      + (∑ j : Fin 1024, heads m (pr c) (ix2 s j) * woA m c (ix2 (colOf (pr c) j) n)) = W.out s n := by
    rw [Weights.out, ← cols_of c fun j => W.attended s j * W.wo j n]
    exact congrArg₂ (· + ·) (Finset.sum_congr rfl fun j _ => congrArg₂ (· * ·) (headsW_at H c s j) (H.wo c _ n))
      (Finset.sum_congr rfl fun j _ => congrArg₂ (· * ·) (headsW_at H (pr c) s j) (H.wo c _ n))
  rw [← h2]
  unfold result ownPart
  by_cases h : c.val < 16
  · have hq : ¬ (pr c).val < 16 := by omega
    rw [if_pos h, if_pos h, k1_pay24_at, k1_pay22_at]
    simp only [woTop_at _ c h, woBot_at _ (pr c) hq]
  · have hq : (pr c).val < 16 := by omega
    rw [if_neg h, if_neg h, k1_pay1_at, k1_pay23_at]
    simp only [woBot_at _ c h, woTop_at _ (pr c) hq]

end Cert.Proof.Mla

end
-- ==== Proof.ReferenceValue.lean ====
/- What the reference computes, read at one place, at the ideal values where the arguments that the scores depend on are finite. -/
module

public import proofs.«01_k».proof.Proof.Maths
public import proofs.«01_k».proof.Proof.Gen.ReferenceIdeal.Run

@[expose] public section

noncomputable section

namespace Cert.Proof.MlaRef

open Cert.ReferenceIdeal Cert.ReferenceIdeal.Gen
open Idealize.ShloMosaic Idealize.ShloMosaic.TcCoe
open Cert.Proof.Mla (Weights col ropeCol factor factor_coe coe_dot coe_sum exp_coe div_coe max_coe negInf softmax_shift)

/-! ## The reference's steps -/

def latent (x : FVec Ideal S1x1024x2048 .f32) (w : FVec Ideal S2048x256 .f32) : FVec Ideal S1x1024x256 .f32 :=
  Host.dotGeneral dot_S1x1024x2048_S2048x256_S1x1024x256_2_0_01_1_n_n none x w
def up (c : FVec Ideal S1x1024x256 .f32) (w : FVec Ideal S256x2048 .f32) : FVec Ideal S1x1024x16x128 .f32 :=
  shapeCast _ (Host.dotGeneral dot_S1x1024x256_S256x2048_S1x1024x2048_2_0_01_1_n_n none c w) shapeCasts_S1x1024x2048_S1x1024x16x128
def query (x : FVec Ideal S1x1024x2048 .f32) (w : FVec Ideal S2048x2048 .f32) : FVec Ideal S1x1024x16x128 .f32 :=
  shapeCast _ (Host.dotGeneral dot_S1x1024x2048_S2048x2048_S1x1024x2048_2_0_01_1_n_n none x w) shapeCasts_S1x1024x2048_S1x1024x16x128
def ropeQuery (x : FVec Ideal S1x1024x2048 .f32) (w : FVec Ideal S2048x512 .f32) : FVec Ideal S1x1024x16x32 .f32 :=
  shapeCast _ (Host.dotGeneral dot_S1x1024x2048_S2048x512_S1x1024x512_2_0_01_1_n_n none x w) shapeCasts_S1x1024x512_S1x1024x16x32
def ropeKey (x : FVec Ideal S1x1024x2048 .f32) (w : FVec Ideal S2048x32 .f32) : FVec Ideal S1x1024x16x32 .f32 :=
  broadcastInDim S1x1024x16x32 ![0, 1, 2, 3] bcast_S1x1024x1x32_S1x1024x16x32_0_1_2_3
    (shapeCast S1x1024x1x32 (Host.dotGeneral dot_S1x1024x2048_S2048x32_S1x1024x32_2_0_01_1_n_n none x w) shapeCasts_S1x1024x32_S1x1024x1x32)
def scores (q k : FVec Ideal S1x1024x16x128 .f32) (qr kr : FVec Ideal S1x1024x16x32 .f32) : FVec Ideal S1x16x1024x1024 .f32 :=
  mulf (addf (Host.dotGeneral dot_S1x1024x16x128_S1x1024x16x128_S1x16x1024x1024_3_3_1_1_02_02 none q k)
    (Host.dotGeneral dot_S1x1024x16x32_S1x1024x16x32_S1x16x1024x1024_3_3_1_1_02_02 none qr kr))
    (broadcastInDim S1x16x1024x1024 ![] bcast_S_S1x16x1024x1024 (constant S_ .f32 0x3DA1E89B#32))
/-- The greatest score of each row, along the row. -/
def greatest (a : FVec Ideal S1x16x1024x1024 .f32) : FVec Ideal S1x16x1024x1024 .f32 :=
  broadcastInDim S1x16x1024x1024 ![0, 1, 2, 3] bcast_S1x16x1024x1_S1x16x1024x1024_0_1_2_3
    (broadcastInDim S1x16x1024x1 ![0, 1, 2] bcast_S1x16x1024_S1x16x1024x1_0_1_2
      (Host.reduce FloatOps.maximumf a (constant S_ .f32 0xFF800000#32) reducesTo_S1x16x1024x1024_S1x16x1024_d3 h_S_))
def powers (a : FVec Ideal S1x16x1024x1024 .f32) : FVec Ideal S1x16x1024x1024 .f32 := Host.exp (subf a (greatest a))
def softmax (a : FVec Ideal S1x16x1024x1024 .f32) : FVec Ideal S1x16x1024x1024 .f32 :=
  Host.divf (powers a) (broadcastInDim S1x16x1024x1024 ![0, 1, 2, 3] bcast_S1x16x1024x1_S1x16x1024x1024_0_1_2_3
    (broadcastInDim S1x16x1024x1 ![0, 1, 2] bcast_S1x16x1024_S1x16x1024x1_0_1_2
      (Host.reduceAdd (powers a) (constant S_ .f32 0x00000000#32) reducesTo_S1x16x1024x1024_S1x16x1024_d3 h_S_)))
def output (v : FVec Ideal S1x1024x16x128 .f32) (p : FVec Ideal S1x16x1024x1024 .f32) (w : FVec Ideal S2048x2048 .f32) : FVec Ideal S1x1024x2048 .bf16 :=
  truncf .bf16 (Host.dotGeneral dot_S1x1024x2048_S2048x2048_S1x1024x2048_2_0_01_1_n_n none
    (shapeCast S1x1024x2048 (transpose S1x1024x16x128 [0, 3, 1, 2]
      (Host.dotGeneral dot_S1x1024x16x128_S1x16x1024x1024_S1x16x128x1024_1_3_3_2_02_01 none v p) transposes_S1x16x128x1024_S1x1024x16x128_0_3_1_2)
      shapeCasts_S1x1024x16x128_S1x1024x2048) w) bitsLt_bf16_f32

/-! ## Each step at one place -/

theorem latent_at (x : FVec Ideal S1x1024x2048 .f32) (w : FVec Ideal S2048x256 .f32) (i : Fin 1024) (k : Fin 256) :
    latent x w (ix3 0 i k) = ∑ d : Fin 2048, x (ix3 0 i d) * w (ix2 d k) := by
  pointwise [latent]
theorem up_at (c : FVec Ideal S1x1024x256 .f32) (w : FVec Ideal S256x2048 .f32) (i : Fin 1024) (h : Fin 16) (e : Fin 128) :
    up c w (ix4 0 i h e) = ∑ k : Fin 256, c (ix3 0 i k) * w (ix2 k (col h e)) := by
  pointwise [up, col]
theorem query_at (x : FVec Ideal S1x1024x2048 .f32) (w : FVec Ideal S2048x2048 .f32) (i : Fin 1024) (h : Fin 16) (e : Fin 128) :
    query x w (ix4 0 i h e) = ∑ d : Fin 2048, x (ix3 0 i d) * w (ix2 d (col h e)) := by
  pointwise [query, col]
theorem ropeQuery_at (x : FVec Ideal S1x1024x2048 .f32) (w : FVec Ideal S2048x512 .f32) (i : Fin 1024) (h : Fin 16) (r : Fin 32) :
    ropeQuery x w (ix4 0 i h r) = ∑ d : Fin 2048, x (ix3 0 i d) * w (ix2 d (ropeCol h r)) := by
  pointwise [ropeQuery, ropeCol]
theorem ropeKey_at (x : FVec Ideal S1x1024x2048 .f32) (w : FVec Ideal S2048x32 .f32) (i : Fin 1024) (h : Fin 16) (r : Fin 32) :
    ropeKey x w (ix4 0 i h r) = ∑ d : Fin 2048, x (ix3 0 i d) * w (ix2 d r) := by
  pointwise [ropeKey]
theorem scores_at (q k : FVec Ideal S1x1024x16x128 .f32) (qr kr : FVec Ideal S1x1024x16x32 .f32) (h : Fin 16) (s t : Fin 1024) :
    scores q k qr kr (ix4 0 h s t) = ((∑ e : Fin 128, q (ix4 0 s h e) * k (ix4 0 t h e)) + ∑ r : Fin 32, qr (ix4 0 s h r) * kr (ix4 0 t h r))
      * Ideal.ofBits .f32 0x3DA1E89B#32 := by
  pointwise [scores]
theorem greatest_at (a : FVec Ideal S1x16x1024x1024 .f32) (h : Fin 16) (s t : Fin 1024) :
    greatest a (ix4 0 h s t) = Finset.univ.fold max (Ideal.ofBits .f32 0xFF800000#32) fun u : Fin 1024 => a (ix4 0 h s u) := by
  pointwise [greatest]
theorem powers_at (a : FVec Ideal S1x16x1024x1024 .f32) (h : Fin 16) (s t : Fin 1024) :
    powers a (ix4 0 h s t) = Ideal.exp (a (ix4 0 h s t) - greatest a (ix4 0 h s t)) := by
  pointwise [powers]
theorem softmax_at (a : FVec Ideal S1x16x1024x1024 .f32) (h : Fin 16) (s t : Fin 1024) :
    softmax a (ix4 0 h s t) = Ideal.div (powers a (ix4 0 h s t)) (∑ u : Fin 1024, powers a (ix4 0 h s u)) := by
  pointwise [softmax]
theorem output_at (v : FVec Ideal S1x1024x16x128 .f32) (p : FVec Ideal S1x16x1024x1024 .f32) (w : FVec Ideal S2048x2048 .f32)
    (s : Fin 1024) (n : Fin 2048) :
    output v p w (ix3 0 s n) = ∑ j : Fin 2048, (∑ t : Fin 1024,
      v (ix4 0 t ⟨j.val / 128, by omega⟩ ⟨j.val % 128, Nat.mod_lt _ (by decide)⟩) * p (ix4 0 ⟨j.val / 128, by omega⟩ s t)) * w (ix2 j n) := by
  pointwise [output]

/-! ## The steps of the arguments' matrices -/

variable (m : (ℓ : Loc nD τ sig) → Buf (Elt Ideal) ℓ) (W : Weights)

abbrev xR : FVec Ideal S1x1024x2048 .f32 := m (((0 : Dev nD).tc : Thread nD τ).loc main_arg0)
abbrev wdkvR : FVec Ideal S2048x256 .f32 := m (((0 : Dev nD).tc : Thread nD τ).loc main_arg1)
abbrev wukR : FVec Ideal S256x2048 .f32 := m (((0 : Dev nD).tc : Thread nD τ).loc main_arg2)
abbrev wuvR : FVec Ideal S256x2048 .f32 := m (((0 : Dev nD).tc : Thread nD τ).loc main_arg3)
abbrev wqR : FVec Ideal S2048x2048 .f32 := m (((0 : Dev nD).tc : Thread nD τ).loc main_arg4)
abbrev wqrR : FVec Ideal S2048x512 .f32 := m (((0 : Dev nD).tc : Thread nD τ).loc main_arg5)
abbrev wkrR : FVec Ideal S2048x32 .f32 := m (((0 : Dev nD).tc : Thread nD τ).loc main_arg6)
abbrev woR : FVec Ideal S2048x2048 .f32 := m (((0 : Dev nD).tc : Thread nD τ).loc main_arg7)

/-- The whole arrays are the matrices. -/
structure Holds : Prop where
  x : ∀ (s : Fin 1024) (d : Fin 2048), xR m (ix3 0 s d) = ((W.x s d : ℝ) : EReal)
  wdkv : ∀ (d : Fin 2048) (k : Fin 256), wdkvR m (ix2 d k) = ((W.wdkv d k : ℝ) : EReal)
  wuk : ∀ (k : Fin 256) (n : Fin 2048), wukR m (ix2 k n) = ((W.wuk k n : ℝ) : EReal)
  wuv : ∀ (k : Fin 256) (n : Fin 2048), wuvR m (ix2 k n) = W.wuv k n
  wq : ∀ (d n : Fin 2048), wqR m (ix2 d n) = ((W.wq d n : ℝ) : EReal)
  wqr : ∀ (d : Fin 2048) (n : Fin 512), wqrR m (ix2 d n) = ((W.wqr d n : ℝ) : EReal)
  wkr : ∀ (d : Fin 2048) (r : Fin 32), wkrR m (ix2 d r) = ((W.wkr d r : ℝ) : EReal)
  wo : ∀ (j n : Fin 2048), woR m (ix2 j n) = W.wo j n

abbrev scoresR : FVec Ideal S1x16x1024x1024 .f32 :=
  scores (query (xR m) (wqR m)) (up (latent (xR m) (wdkvR m)) (wukR m)) (ropeQuery (xR m) (wqrR m)) (ropeKey (xR m) (wkrR m))

/-- The reference's term is its steps, one after the other. -/
theorem res_eq : Value.res_out0 m 0 = output (up (latent (xR m) (wdkvR m)) (wuvR m)) (softmax (scoresR m)) (woR m) := rfl

variable {m W} (H : Holds m W)
include H

theorem latentR (i : Fin 1024) (k : Fin 256) : latent (xR m) (wdkvR m) (ix3 0 i k) = ((W.latent i k : ℝ) : EReal) := by
  rw [latent_at, Weights.latent, ← coe_dot]
  exact Finset.sum_congr rfl fun d _ => congrArg₂ (· * ·) (H.x i d) (H.wdkv d k)
theorem keyR (i : Fin 1024) (h : Fin 16) (e : Fin 128) :
    up (latent (xR m) (wdkvR m)) (wukR m) (ix4 0 i h e) = ((W.key i (col h e) : ℝ) : EReal) := by
  rw [up_at, Weights.key, ← coe_dot]
  exact Finset.sum_congr rfl fun k _ => congrArg₂ (· * ·) (latentR H i k) (H.wuk k _)
theorem valueR (i : Fin 1024) (h : Fin 16) (e : Fin 128) :
    up (latent (xR m) (wdkvR m)) (wuvR m) (ix4 0 i h e) = W.value i (col h e) := by
  rw [up_at, Weights.value]
  exact Finset.sum_congr rfl fun k _ => congrArg₂ (· * ·) (latentR H i k) (H.wuv k _)
theorem queryR (i : Fin 1024) (h : Fin 16) (e : Fin 128) : query (xR m) (wqR m) (ix4 0 i h e) = ((W.query i (col h e) : ℝ) : EReal) := by
  rw [query_at, Weights.query, ← coe_dot]
  exact Finset.sum_congr rfl fun d _ => congrArg₂ (· * ·) (H.x i d) (H.wq d _)
theorem ropeQueryR (i : Fin 1024) (h : Fin 16) (r : Fin 32) :
    ropeQuery (xR m) (wqrR m) (ix4 0 i h r) = ((W.ropeQuery i (ropeCol h r) : ℝ) : EReal) := by
  rw [ropeQuery_at, Weights.ropeQuery, ← coe_dot]
  exact Finset.sum_congr rfl fun d _ => congrArg₂ (· * ·) (H.x i d) (H.wqr d _)
theorem ropeKeyR (i : Fin 1024) (h : Fin 16) (r : Fin 32) : ropeKey (xR m) (wkrR m) (ix4 0 i h r) = ((W.ropeKey i r : ℝ) : EReal) := by
  rw [ropeKey_at, Weights.ropeKey, ← coe_dot]
  exact Finset.sum_congr rfl fun d _ => congrArg₂ (· * ·) (H.x i d) (H.wkr d r)

theorem scoreR (h : Fin 16) (s t : Fin 1024) : scoresR m (ix4 0 h s t) = ((W.score h s t : ℝ) : EReal) := by
  rw [scoresR, scores_at, factor_coe, Weights.score, EReal.coe_mul, EReal.coe_add, ← coe_dot, ← coe_dot]
  refine congrArg (· * (factor : EReal)) (congrArg₂ (· + ·) ?_ ?_)
  · exact Finset.sum_congr rfl fun e _ => congrArg₂ (· * ·) (queryR H s h e) (keyR H t h e)
  · exact Finset.sum_congr rfl fun r _ => congrArg₂ (· * ·) (ropeQueryR H s h r) (ropeKeyR H t h r)

theorem softmaxR (h : Fin 16) (s t : Fin 1024) :
    softmax (scoresR m) (ix4 0 h s t) = ((Real.exp (W.score h s t) / W.mass h s : ℝ) : EReal) := by
  obtain ⟨M, hM⟩ := max_coe (n := 1023) fun u => W.score h s u
  have hp (u : Fin 1024) : powers (scoresR m) (ix4 0 h s u) = ((Real.exp (W.score h s u - M) : ℝ) : EReal) := by
    rw [powers_at, greatest_at, negInf]
    simp only [scoreR H]
    rw [hM, ← EReal.coe_sub, exp_coe]
  rw [softmax_at]
  simp only [hp]
  rw [coe_sum, div_coe _ _ (Finset.sum_pos (fun _ _ => Real.exp_pos _) ⟨0, Finset.mem_univ _⟩).ne', softmax_shift (fun u => W.score h s u) M t,
    Weights.mass]

/-- The reference ends with the problem's result. -/
theorem res_at (s : Fin 1024) (n : Fin 2048) : Value.res_out0 m 0 (ix3 0 s n) = W.out s n := by
  refine (congrFun (res_eq m) _).trans ((output_at _ _ _ s n).trans ?_)
  rw [Weights.out]
  refine Finset.sum_congr rfl fun j _ => congrArg₂ (· * ·) ?_ (H.wo j n)
  rw [Weights.attended, Weights.head]
  exact Finset.sum_congr rfl fun t _ => (congrArg₂ (· * ·) (valueR H t _ _) (softmaxR H _ s t)).trans (mul_comm _ _)

end Cert.Proof.MlaRef

end
-- ==== Proof.Algebraic.lean ====
/- The kernel and the reference agree: where the arguments that the scores depend on are finite, both end with the problem's result. -/
module

public import proofs.«01_k».proof.Proof.Frames
public import proofs.«01_k».proof.Proof.KernelValue
public import proofs.«01_k».proof.Proof.ReferenceValue

@[expose] public section

noncomputable section

namespace Cert.Proof.Mla

open Idealize.ShloMosaic Idealize.ShloMosaic.TcCoe Idealize.SL.Sem

/-- The shapes the precondition's comparisons spread a scalar over. -/
instance finiteFacts : Cert.Pre_finite_KernelIdeal.Facts := by constructor <;> decide
instance finiteReferenceFacts : Cert.Pre_finite_ReferenceIdeal.Facts := by constructor <;> decide

/-! ## Finite entries -/

/-- Every entry is a real number. -/
def AllReal {S : Shape} (a : FVec Ideal S .f32) : Prop := ∀ i, a i = ((EReal.toReal (a i) : ℝ) : EReal)

theorem infinity : Ideal.ofBits .f32 0x7F800000#32 = (⊤ : EReal) := by
  simp [Ideal.ofBits, Ideal.ieee]

/-- An array of which the precondition's comparison holds everywhere. -/
theorem allReal {S : Shape} (a : FVec Ideal S .f32) (hb : (⟨0, ![]⟩ : Shape).BroadcastsInDim S ![])
    (h : cmpf .olt (Host.absf a) (broadcastInDim S ![] hb (constant ⟨0, ![]⟩ .f32 0x7F800000#32)) = fun _ => 1#1) : AllReal a := by
  intro i
  have hi : Ideal.cmp .olt (max (a i) (-(a i))) (Ideal.ofBits .f32 0x7F800000#32) = 1#1 := congrFun h i
  rw [infinity] at hi
  refine (EReal.coe_toReal ?_ ?_).symm <;> intro e <;> rw [e] at hi <;> simp [Ideal.cmp] at hi

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-! ## A device's block of a whole array -/

theorem cutCols (c : Dev Cert.KernelIdeal.nD) (v : FVec Ideal ⟨2, ![2048, 256]⟩ .f32) (d : Fin 2048) (k : Fin 128) :
    (Layout.blockN ⟨2, ![2048, 128]⟩ ⟨2, ![2048, 256]⟩ (Layout.meshBlock [2, 4, 4] ![[], [0]] c) v) (ix2 d k) = v (ix2 d (half c k)) := by
  have h : ∀ c : Dev Cert.KernelIdeal.nD, Layout.meshLin [2, 4, 4] c.val [0] = c.val / 16 := by decide
  refine congrArg v (funext fun ax => Fin.ext ?_)
  fin_cases ax
  · show 0 * 2048 + d.val = d.val
    omega
  · show Layout.meshLin [2, 4, 4] c.val [0] * 128 + k.val = 128 * (c.val / 16) + k.val
    rw [h c, mul_comm]

theorem cutRows (c : Dev Cert.KernelIdeal.nD) (v : FVec Ideal ⟨2, ![256, 2048]⟩ .f32) (k : Fin 128) (n : Fin 2048) :
    (Layout.blockN ⟨2, ![128, 2048]⟩ ⟨2, ![256, 2048]⟩ (Layout.meshBlock [2, 4, 4] ![[0], []] c) v) (ix2 k n) = v (ix2 (half c k) n) := by
  have h : ∀ c : Dev Cert.KernelIdeal.nD, Layout.meshLin [2, 4, 4] c.val [0] = c.val / 16 := by decide
  refine congrArg v (funext fun ax => Fin.ext ?_)
  fin_cases ax
  · show Layout.meshLin [2, 4, 4] c.val [0] * 128 + k.val = 128 * (c.val / 16) + k.val
    rw [h c, mul_comm]
  · show 0 * 2048 + n.val = n.val
    omega

/-- Every latent column is some device's. -/
theorem half_surj (k : Fin 256) : ∃ (c : Dev Cert.KernelIdeal.nD) (k' : Fin 128), half c k' = k := by
  by_cases h : k.val < 128
  · exact ⟨0, ⟨k.val, h⟩, Fin.ext (by show 128 * (0 / 16) + k.val = k.val; omega)⟩
  · exact ⟨16, ⟨k.val - 128, by omega⟩, Fin.ext (by show 128 * (16 / 16) + (k.val - 128) = k.val; omega)⟩

/-! ## The two programs' arguments as one family of matrices -/

section
open Cert.KernelIdeal

variable (m m')

/-- The whole arrays and the devices' arrays: one copy, or a block. -/
structure Agree : Prop where
  x : ∀ c : Dev nD, m ((c.tc : Thread nD τ).loc main_arg0) = MlaRef.xR m'
  wdkv : ∀ c : Dev nD, m ((c.tc : Thread nD τ).loc main_arg1) = Layout.blockN ⟨2, ![2048, 128]⟩ ⟨2, ![2048, 256]⟩ (Layout.meshBlock [2, 4, 4] ![[], [0]] c) (MlaRef.wdkvR m')
  wuk : ∀ c : Dev nD, m ((c.tc : Thread nD τ).loc main_arg2) = Layout.blockN ⟨2, ![128, 2048]⟩ ⟨2, ![256, 2048]⟩ (Layout.meshBlock [2, 4, 4] ![[0], []] c) (MlaRef.wukR m')
  wuv : ∀ c : Dev nD, m ((c.tc : Thread nD τ).loc main_arg3) = Layout.blockN ⟨2, ![128, 2048]⟩ ⟨2, ![256, 2048]⟩ (Layout.meshBlock [2, 4, 4] ![[0], []] c) (MlaRef.wuvR m')
  wq : ∀ c : Dev nD, m ((c.tc : Thread nD τ).loc main_arg4) = MlaRef.wqR m'
  wqr : ∀ c : Dev nD, m ((c.tc : Thread nD τ).loc main_arg5) = MlaRef.wqrR m'
  wkr : ∀ c : Dev nD, m ((c.tc : Thread nD τ).loc main_arg6) = MlaRef.wkrR m'
  wo : ∀ c : Dev nD, m ((c.tc : Thread nD τ).loc main_arg7) = MlaRef.woR m'

/-- The arrays that the scores depend on hold real numbers. -/
structure Reals (c : Dev nD) : Prop where
  x : AllReal (S := S1x1024x2048) (m ((c.tc : Thread nD τ).loc main_arg0))
  wdkv : AllReal (S := S2048x128) (m ((c.tc : Thread nD τ).loc main_arg1))
  wuk : AllReal (S := S128x2048) (m ((c.tc : Thread nD τ).loc main_arg2))
  wq : AllReal (S := S2048x2048) (m ((c.tc : Thread nD τ).loc main_arg4))
  wqr : AllReal (S := S2048x512) (m ((c.tc : Thread nD τ).loc main_arg5))
  wkr : AllReal (S := S2048x32) (m ((c.tc : Thread nD τ).loc main_arg6))

theorem reals_of (h : Cert.Pre_KernelIdeal_finite_KernelIdeal m) (c : Dev nD) : Reals m c := by
  obtain ⟨hx, hwdkv, hwuk, hwq, hwqr, hwkr⟩ := h c
  exact ⟨allReal _ _ hx, allReal _ _ hwdkv, allReal _ _ hwuk, allReal _ _ hwq, allReal _ _ hwqr, allReal _ _ hwkr⟩

/-- The matrices of the whole arrays. -/
def weights : Weights where
  x s d := EReal.toReal (MlaRef.xR m' (ix3 0 s d))
  wdkv d k := EReal.toReal (MlaRef.wdkvR m' (ix2 d k))
  wuk k n := EReal.toReal (MlaRef.wukR m' (ix2 k n))
  wuv k n := MlaRef.wuvR m' (ix2 k n)
  wq d n := EReal.toReal (MlaRef.wqR m' (ix2 d n))
  wqr d n := EReal.toReal (MlaRef.wqrR m' (ix2 d n))
  wkr d r := EReal.toReal (MlaRef.wkrR m' (ix2 d r))
  wo j n := MlaRef.woR m' (ix2 j n)

variable {m m'}

theorem real_cols {a : Dev nD → FVec Ideal ⟨2, ![2048, 128]⟩ .f32} {v : FVec Ideal ⟨2, ![2048, 256]⟩ .f32} (hr : ∀ c, AllReal (a c))
    (h : ∀ c, a c = Layout.blockN ⟨2, ![2048, 128]⟩ ⟨2, ![2048, 256]⟩ (Layout.meshBlock [2, 4, 4] ![[], [0]] c) v) (d : Fin 2048) (k : Fin 256) :
    v (ix2 d k) = ((EReal.toReal (v (ix2 d k)) : ℝ) : EReal) := by
  obtain ⟨c, k', rfl⟩ := half_surj k
  have e : a c (ix2 d k') = v (ix2 d (half c k')) := (congrFun (h c) _).trans (cutCols c v d k')
  rw [← e]
  exact hr c _

theorem real_rows {a : Dev nD → FVec Ideal ⟨2, ![128, 2048]⟩ .f32} {v : FVec Ideal ⟨2, ![256, 2048]⟩ .f32} (hr : ∀ c, AllReal (a c))
    (h : ∀ c, a c = Layout.blockN ⟨2, ![128, 2048]⟩ ⟨2, ![256, 2048]⟩ (Layout.meshBlock [2, 4, 4] ![[0], []] c) v) (k : Fin 256) (n : Fin 2048) :
    v (ix2 k n) = ((EReal.toReal (v (ix2 k n)) : ℝ) : EReal) := by
  obtain ⟨c, k', rfl⟩ := half_surj k
  have e : a c (ix2 k' n) = v (ix2 (half c k') n) := (congrFun (h c) _).trans (cutRows c v k' n)
  rw [← e]
  exact hr c _

variable (A : Agree m m') (R : ∀ c, Reals m c)
include A R

theorem holdsRef : MlaRef.Holds m' (weights m') where
  x s d := (A.x 0 ▸ (R 0).x : AllReal (MlaRef.xR m')) _
  wdkv d k := real_cols (a := fun c => m ((c.tc : Thread nD τ).loc main_arg1)) (fun c => (R c).wdkv) A.wdkv d k
  wuk k n := real_rows (a := fun c => m ((c.tc : Thread nD τ).loc main_arg2)) (fun c => (R c).wuk) A.wuk k n
  wuv _ _ := rfl
  wq d n := (A.wq 0 ▸ (R 0).wq : AllReal (MlaRef.wqR m')) _
  wqr d n := (A.wqr 0 ▸ (R 0).wqr : AllReal (MlaRef.wqrR m')) _
  wkr d r := (A.wkr 0 ▸ (R 0).wkr : AllReal (MlaRef.wkrR m')) _
  wo _ _ := rfl

omit A R in
theorem dropped (a : FVec Ideal S1x1024x2048 .f32) (s : Fin 1024) (d : Fin 2048) :
    shapeCast S1024x2048 a Cert.KernelIdeal.Gen.shapeCasts_S1x1024x2048_S1024x2048 (ix2 s d) = a (ix3 0 s d) := by
  pointwise
omit A R in
/-- The kernel's reshape of `x` drops its first axis. -/
theorem xA_at (c : Dev nD) (s : Fin 1024) (d : Fin 2048) :
    xA m c (ix2 s d) = (m ((c.tc : Thread nD τ).loc main_arg0) : FVec Ideal S1x1024x2048 .f32) (ix3 0 s d) := by
  have e : xA m c = shapeCast S1024x2048 (m ((c.tc : Thread nD τ).loc main_arg0) : FVec Ideal S1x1024x2048 .f32)
      Cert.KernelIdeal.Gen.shapeCasts_S1x1024x2048_S1024x2048 := by
    unfold xA
    after_results_simp
    rfl
  rw [e]
  exact dropped _ s d

/-- No operation before the calls writes an argument. -/
theorem holds : Holds m (weights m') where
  x c s d := (xA_at c s d).trans ((congrFun (A.x c) _).trans ((holdsRef A R).x s d))
  wdkv c d k := (congrFun ((Gen.V1_of m c main_arg1 (by decide)).trans (A.wdkv c)) _).trans ((cutCols c _ d k).trans ((holdsRef A R).wdkv d _))
  wuk c k n := (congrFun ((Gen.V1_of m c main_arg2 (by decide)).trans (A.wuk c)) _).trans ((cutRows c _ k n).trans ((holdsRef A R).wuk _ n))
  wuv c k n := (congrFun ((Gen.V1_of m c main_arg3 (by decide)).trans (A.wuv c)) _).trans ((cutRows c _ k n).trans ((holdsRef A R).wuv _ n))
  wq c d n := (congrFun ((Gen.V1_of m c main_arg4 (by decide)).trans (A.wq c)) _).trans ((holdsRef A R).wq d n)
  wqr c d n := (congrFun ((Gen.V1_of m c main_arg5 (by decide)).trans (A.wqr c)) _).trans ((holdsRef A R).wqr d n)
  wkr c d r := (congrFun ((Gen.V1_of m c main_arg6 (by decide)).trans (A.wkr c)) _).trans ((holdsRef A R).wkr d r)
  wo c j n := (congrFun ((Gen.V1_of m c main_arg7 (by decide)).trans (A.wo c)) _).trans ((holdsRef A R).wo j n)

/-- Every device ends with the reference's result. -/
theorem results_eq (c : Dev nD) : (result m c : FVec Ideal S1x1024x2048 .bf16) = Cert.ReferenceIdeal.Value.res_out0 m' 0 := by
  funext i
  obtain ⟨z, s, n, rfl⟩ : ∃ (z : Fin 1) (s : Fin 1024) (n : Fin 2048), i = ix3 z s n := ⟨i 0, i 1, i 2, eq_ix3 i⟩
  obtain rfl : z = 0 := Subsingleton.elim _ _
  exact (result_at (holds A R) c s n).trans (MlaRef.res_at (holdsRef A R) s n).symm

end

/-! ## The claim -/

theorem algebraic : Cert.algebraic_KernelIdeal_ReferenceIdeal_pre_finite_KernelIdeal := by
  intro m g m' g' hpre hag
  have A : Agree m m' := ⟨fun c => (hag c).1, fun c => (hag c).2.1, fun c => (hag c).2.2.1, fun c => (hag c).2.2.2.1, fun c => (hag c).2.2.2.2.1,
    fun c => (hag c).2.2.2.2.2.1, fun c => (hag c).2.2.2.2.2.2.1, fun c => (hag c).2.2.2.2.2.2.2⟩
  have R : ∀ c, Reals m c := reals_of m hpre
  refine ⟨Cert.ReferenceIdeal.Value.res_out0 m' 0, ?_, ?_⟩
  · exact (θ_run Cert.KernelIdeal.defs _ _).mono (fun r h c => ⟨(h.1 c).2.trans (results_eq A R c), (h.1 c).1⟩) (run_main m g)
  · exact (θ_run Cert.ReferenceIdeal.defs _ _).mono (fun r h => h 0) (Cert.ReferenceIdeal.Value.run (F := Ideal) m' g')

end Cert.Proof.Mla

end
-- ==== Proof.lean ====
/- The proof of the certificate's claim: the witnesses of the programs' stated facts, then the conjuncts, each from its module. -/
module

public import proofs.«01_k».proof.Defs
public import proofs.«01_k».proof.Proof.Frames
public import proofs.«01_k».proof.Proof.Algebraic

@[expose] public section

noncomputable section

namespace Cert.Proof

open Cert.Proof.Mla

/-- A frame read under the finiteness precondition is the frame without it. -/
theorem claim : Cert.Claim :=
  ⟨kernelFacts, kernelIdealFacts, referenceFacts, finiteFacts, finiteReferenceFacts,
    frame_kernel, frame_ideal, fun m g _ => frame_ideal m g trivial, frame_reference, fun m g _ => frame_reference m g trivial, trivial, algebraic⟩

end Cert.Proof

end
